-- ==== Defs.lean ====
def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InRefIdeal (m : (ℓ : Loc Cert.InRefIdeal.nD Cert.InRefIdeal.τ Cert.InRefIdeal.sig) → Buf (Elt Ideal) ℓ) : Prop :=
  True

def Pre_MidProj (m : (ℓ : Loc Cert.MidProj.nD Cert.MidProj.τ Cert.MidProj.sig) → Buf (Elt Bits) ℓ) : Prop :=
  True

def Pre_MidProjIdeal (m : (ℓ : Loc Cert.MidProjIdeal.nD Cert.MidProjIdeal.τ Cert.MidProjIdeal.sig) → Buf (Elt Ideal) ℓ) : Prop :=
  True

def Pre_MidRefIdeal (m : (ℓ : Loc Cert.MidRefIdeal.nD Cert.MidRefIdeal.τ Cert.MidRefIdeal.sig) → Buf (Elt Ideal) ℓ) : Prop :=
  True

def Pre_Tokens (m : (ℓ : Loc Cert.Tokens.nD Cert.Tokens.τ Cert.Tokens.sig) → Buf (Elt Bits) ℓ) : Prop :=
  True

def Pre_TokensIdeal (m : (ℓ : Loc Cert.TokensIdeal.nD Cert.TokensIdeal.τ Cert.TokensIdeal.sig) → Buf (Elt Ideal) ℓ) : Prop :=
  True

def Pre_TokensRefIdeal (m : (ℓ : Loc Cert.TokensRefIdeal.nD Cert.TokensRefIdeal.τ Cert.TokensRefIdeal.sig) → Buf (Elt Ideal) ℓ) : Prop :=
  True

def Pre_Dilated (m : (ℓ : Loc Cert.Dilated.nD Cert.Dilated.τ Cert.Dilated.sig) → Buf (Elt Bits) ℓ) : Prop :=
  True

def Pre_DilatedIdeal (m : (ℓ : Loc Cert.DilatedIdeal.nD Cert.DilatedIdeal.τ Cert.DilatedIdeal.sig) → Buf (Elt Ideal) ℓ) : Prop :=
  True

def Pre_Memory (m : (ℓ : Loc Cert.Memory.nD Cert.Memory.τ Cert.Memory.sig) → Buf (Elt Bits) ℓ) : Prop :=
  True

def Pre_MemoryIdeal (m : (ℓ : Loc Cert.MemoryIdeal.nD Cert.MemoryIdeal.τ Cert.MemoryIdeal.sig) → Buf (Elt Ideal) ℓ) : Prop :=
  True

def Pre_MemoryIdeal_finite [hPre_finite : Cert.Pre_finite.Facts] (m : (ℓ : Loc Cert.MemoryIdeal.nD Cert.MemoryIdeal.τ Cert.MemoryIdeal.sig) → Buf (Elt Ideal) ℓ) : Prop :=
  ∀ c : Dev Cert.MemoryIdeal.nD,
    (Cert.Pre_finite.fn (F := Ideal) (m ((c.tc : Thread Cert.MemoryIdeal.nD Cert.MemoryIdeal.τ).loc Cert.MemoryIdeal.main_arg0)) (m ((c.tc : Thread Cert.MemoryIdeal.nD Cert.MemoryIdeal.τ).loc Cert.MemoryIdeal.main_arg1))) = (fun _ => 1#1)

def Pre_MemoryRefIdeal (m : (ℓ : Loc Cert.MemoryRefIdeal.nD Cert.MemoryRefIdeal.τ Cert.MemoryRefIdeal.sig) → Buf (Elt Ideal) ℓ) : Prop :=
  True

def Pre_MemoryRefIdeal_finite [hPre_finite : Cert.Pre_finite.Facts] (m : (ℓ : Loc Cert.MemoryRefIdeal.nD Cert.MemoryRefIdeal.τ Cert.MemoryRefIdeal.sig) → Buf (Elt Ideal) ℓ) : Prop :=
  ∀ c : Dev Cert.MemoryRefIdeal.nD,
    (Cert.Pre_finite.fn (F := Ideal) (m ((c.tc : Thread Cert.MemoryRefIdeal.nD Cert.MemoryRefIdeal.τ).loc Cert.MemoryRefIdeal.main_arg0)) (m ((c.tc : Thread Cert.MemoryRefIdeal.nD Cert.MemoryRefIdeal.τ).loc Cert.MemoryRefIdeal.main_arg1))) = (fun _ => 1#1)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4)
      ∧ r.2.mem ((c.tc : Thread Cert.OutProj.nD Cert.OutProj.τ).loc Cert.OutProj.main_arg5) = m ((c.tc : Thread Cert.OutProj.nD Cert.OutProj.τ).loc Cert.OutProj.main_arg5))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4)
      ∧ r.2.mem ((c.tc : Thread Cert.OutRefIdeal.nD Cert.OutRefIdeal.τ).loc Cert.OutRefIdeal.main_arg5) = m ((c.tc : Thread Cert.OutRefIdeal.nD Cert.OutRefIdeal.τ).loc Cert.OutRefIdeal.main_arg5))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1)
      ∧ r.2.mem ((c.tc : Thread Cert.InRefIdeal.nD Cert.InRefIdeal.τ).loc Cert.InRefIdeal.main_arg2) = m ((c.tc : Thread Cert.InRefIdeal.nD Cert.InRefIdeal.τ).loc Cert.InRefIdeal.main_arg2))
      ∧ r.2.sem = fun _ => 0)

def quiescent_MidProj [hMidProj : Cert.MidProj.Facts] : Prop :=
  ∀ (m : (ℓ : Loc Cert.MidProj.nD Cert.MidProj.τ Cert.MidProj.sig) → Buf (Elt Bits) ℓ) (g : Dev Cert.MidProj.nD → PrngReg), Pre_MidProj m →
    θ_run (Cert.MidProj.defs (F := Bits)) (onTc (τ := Cert.MidProj.τ) (Cert.MidProj.main (F := Bits))) ⟨m, fun _ => 0, g⟩ (fun r => (∀ c : Dev Cert.MidProj.nD,
      r.2.mem ((c.tc : Thread Cert.MidProj.nD Cert.MidProj.τ).loc Cert.MidProj.main_arg0) = m ((c.tc : Thread Cert.MidProj.nD Cert.MidProj.τ).loc Cert.MidProj.main_arg0)
      ∧ r.2.mem ((c.tc : Thread Cert.MidProj.nD Cert.MidProj.τ).loc Cert.MidProj.main_arg1) = m ((c.tc : Thread Cert.MidProj.nD Cert.MidProj.τ).loc Cert.MidProj.main_arg1)
      ∧ r.2.mem ((c.tc : Thread Cert.MidProj.nD Cert.MidProj.τ).loc Cert.MidProj.main_arg2) = m ((c.tc : Thread Cert.MidProj.nD Cert.MidProj.τ).loc Cert.MidProj.main_arg2)
      ∧ r.2.mem ((c.tc : Thread Cert.MidProj.nD Cert.MidProj.τ).loc Cert.MidProj.main_arg3) = m ((c.tc : Thread Cert.MidProj.nD Cert.MidProj.τ).loc Cert.MidProj.main_arg3)
      ∧ r.2.mem ((c.tc : Thread Cert.MidProj.nD Cert.MidProj.τ).loc Cert.MidProj.main_arg4) = m ((c.tc : Thread Cert.MidProj.nD Cert.MidProj.τ).loc Cert.MidProj.main_arg4)
      ∧ r.2.mem ((c.tc : Thread Cert.MidProj.nD Cert.MidProj.τ).loc Cert.MidProj.main_arg5) = m ((c.tc : Thread Cert.MidProj.nD Cert.MidProj.τ).loc Cert.MidProj.main_arg5)
      ∧ r.2.mem ((c.tc : Thread Cert.MidProj.nD Cert.MidProj.τ).loc Cert.MidProj.main_arg6) = m ((c.tc : Thread Cert.MidProj.nD Cert.MidProj.τ).loc Cert.MidProj.main_arg6))
      ∧ r.2.sem = fun _ => 0)

def quiescent_MidProjIdeal [hMidProjIdeal : Cert.MidProjIdeal.Facts] : Prop :=
  ∀ (m : (ℓ : Loc Cert.MidProjIdeal.nD Cert.MidProjIdeal.τ Cert.MidProjIdeal.sig) → Buf (Elt Ideal) ℓ) (g : Dev Cert.MidProjIdeal.nD → PrngReg), Pre_MidProjIdeal m →
    θ_run (Cert.MidProjIdeal.defs (F := Ideal)) (onTc (τ := Cert.MidProjIdeal.τ) (Cert.MidProjIdeal.main (F := Ideal))) ⟨m, fun _ => 0, g⟩ (fun r => (∀ c : Dev Cert.MidProjIdeal.nD,
      r.2.mem ((c.tc : Thread Cert.MidProjIdeal.nD Cert.MidProjIdeal.τ).loc Cert.MidProjIdeal.main_arg0) = m ((c.tc : Thread Cert.MidProjIdeal.nD Cert.MidProjIdeal.τ).loc Cert.MidProjIdeal.main_arg0)
      ∧ r.2.mem ((c.tc : Thread Cert.MidProjIdeal.nD Cert.MidProjIdeal.τ).loc Cert.MidProjIdeal.main_arg1) = m ((c.tc : Thread Cert.MidProjIdeal.nD Cert.MidProjIdeal.τ).loc Cert.MidProjIdeal.main_arg1)
      ∧ r.2.mem ((c.tc : Thread Cert.MidProjIdeal.nD Cert.MidProjIdeal.τ).loc Cert.MidProjIdeal.main_arg2) = m ((c.tc : Thread Cert.MidProjIdeal.nD Cert.MidProjIdeal.τ).loc Cert.MidProjIdeal.main_arg2)
      ∧ r.2.mem ((c.tc : Thread Cert.MidProjIdeal.nD Cert.MidProjIdeal.τ).loc Cert.MidProjIdeal.main_arg3) = m ((c.tc : Thread Cert.MidProjIdeal.nD Cert.MidProjIdeal.τ).loc Cert.MidProjIdeal.main_arg3)
      ∧ r.2.mem ((c.tc : Thread Cert.MidProjIdeal.nD Cert.MidProjIdeal.τ).loc Cert.MidProjIdeal.main_arg4) = m ((c.tc : Thread Cert.MidProjIdeal.nD Cert.MidProjIdeal.τ).loc Cert.MidProjIdeal.main_arg4)
      ∧ r.2.mem ((c.tc : Thread Cert.MidProjIdeal.nD Cert.MidProjIdeal.τ).loc Cert.MidProjIdeal.main_arg5) = m ((c.tc : Thread Cert.MidProjIdeal.nD Cert.MidProjIdeal.τ).loc Cert.MidProjIdeal.main_arg5)
      ∧ r.2.mem ((c.tc : Thread Cert.MidProjIdeal.nD Cert.MidProjIdeal.τ).loc Cert.MidProjIdeal.main_arg6) = m ((c.tc : Thread Cert.MidProjIdeal.nD Cert.MidProjIdeal.τ).loc Cert.MidProjIdeal.main_arg6))
      ∧ r.2.sem = fun _ => 0)

def quiescent_MidRefIdeal [hMidRefIdeal : Cert.MidRefIdeal.Facts] : Prop :=
  ∀ (m : (ℓ : Loc Cert.MidRefIdeal.nD Cert.MidRefIdeal.τ Cert.MidRefIdeal.sig) → Buf (Elt Ideal) ℓ) (g : Dev Cert.MidRefIdeal.nD → PrngReg), Pre_MidRefIdeal m →
    θ_run (Cert.MidRefIdeal.defs (F := Ideal)) (onTc (τ := Cert.MidRefIdeal.τ) (Cert.MidRefIdeal.main (F := Ideal))) ⟨m, fun _ => 0, g⟩ (fun r => (∀ c : Dev Cert.MidRefIdeal.nD,
      r.2.mem ((c.tc : Thread Cert.MidRefIdeal.nD Cert.MidRefIdeal.τ).loc Cert.MidRefIdeal.main_arg0) = m ((c.tc : Thread Cert.MidRefIdeal.nD Cert.MidRefIdeal.τ).loc Cert.MidRefIdeal.main_arg0)
      ∧ r.2.mem ((c.tc : Thread Cert.MidRefIdeal.nD Cert.MidRefIdeal.τ).loc Cert.MidRefIdeal.main_arg1) = m ((c.tc : Thread Cert.MidRefIdeal.nD Cert.MidRefIdeal.τ).loc Cert.MidRefIdeal.main_arg1)
      ∧ r.2.mem ((c.tc : Thread Cert.MidRefIdeal.nD Cert.MidRefIdeal.τ).loc Cert.MidRefIdeal.main_arg2) = m ((c.tc : Thread Cert.MidRefIdeal.nD Cert.MidRefIdeal.τ).loc Cert.MidRefIdeal.main_arg2)
      ∧ r.2.mem ((c.tc : Thread Cert.MidRefIdeal.nD Cert.MidRefIdeal.τ).loc Cert.MidRefIdeal.main_arg3) = m ((c.tc : Thread Cert.MidRefIdeal.nD Cert.MidRefIdeal.τ).loc Cert.MidRefIdeal.main_arg3)
      ∧ r.2.mem ((c.tc : Thread Cert.MidRefIdeal.nD Cert.MidRefIdeal.τ).loc Cert.MidRefIdeal.main_arg4) = m ((c.tc : Thread Cert.MidRefIdeal.nD Cert.MidRefIdeal.τ).loc Cert.MidRefIdeal.main_arg4)
      ∧ r.2.mem ((c.tc : Thread Cert.MidRefIdeal.nD Cert.MidRefIdeal.τ).loc Cert.MidRefIdeal.main_arg5) = m ((c.tc : Thread Cert.MidRefIdeal.nD Cert.MidRefIdeal.τ).loc Cert.MidRefIdeal.main_arg5)
      ∧ r.2.mem ((c.tc : Thread Cert.MidRefIdeal.nD Cert.MidRefIdeal.τ).loc Cert.MidRefIdeal.main_arg6) = m ((c.tc : Thread Cert.MidRefIdeal.nD Cert.MidRefIdeal.τ).loc Cert.MidRefIdeal.main_arg6))
      ∧ r.2.sem = fun _ => 0)

def quiescent_Tokens [hTokens : Cert.Tokens.Facts] : Prop :=
  ∀ (m : (ℓ : Loc Cert.Tokens.nD Cert.Tokens.τ Cert.Tokens.sig) → Buf (Elt Bits) ℓ) (g : Dev Cert.Tokens.nD → PrngReg), Pre_Tokens m →
    θ_run (Cert.Tokens.defs (F := Bits)) (onTc (τ := Cert.Tokens.τ) (Cert.Tokens.main (F := Bits))) ⟨m, fun _ => 0, g⟩ (fun r => (∀ c : Dev Cert.Tokens.nD,
      r.2.mem ((c.tc : Thread Cert.Tokens.nD Cert.Tokens.τ).loc Cert.Tokens.main_arg0) = m ((c.tc : Thread Cert.Tokens.nD Cert.Tokens.τ).loc Cert.Tokens.main_arg0)
      ∧ r.2.mem ((c.tc : Thread Cert.Tokens.nD Cert.Tokens.τ).loc Cert.Tokens.main_arg1) = m ((c.tc : Thread Cert.Tokens.nD Cert.Tokens.τ).loc Cert.Tokens.main_arg1)
      ∧ r.2.mem ((c.tc : Thread Cert.Tokens.nD Cert.Tokens.τ).loc Cert.Tokens.main_arg2) = m ((c.tc : Thread Cert.Tokens.nD Cert.Tokens.τ).loc Cert.Tokens.main_arg2)
      ∧ r.2.mem ((c.tc : Thread Cert.Tokens.nD Cert.Tokens.τ).loc Cert.Tokens.main_arg3) = m ((c.tc : Thread Cert.Tokens.nD Cert.Tokens.τ).loc Cert.Tokens.main_arg3)
      ∧ r.2.mem ((c.tc : Thread Cert.Tokens.nD Cert.Tokens.τ).loc Cert.Tokens.main_arg4) = m ((c.tc : Thread Cert.Tokens.nD Cert.Tokens.τ).loc Cert.Tokens.main_arg4))
      ∧ r.2.sem = fun _ => 0)

def quiescent_TokensIdeal [hTokensIdeal : Cert.TokensIdeal.Facts] : Prop :=
  ∀ (m : (ℓ : Loc Cert.TokensIdeal.nD Cert.TokensIdeal.τ Cert.TokensIdeal.sig) → Buf (Elt Ideal) ℓ) (g : Dev Cert.TokensIdeal.nD → PrngReg), Pre_TokensIdeal m →
    θ_run (Cert.TokensIdeal.defs (F := Ideal)) (onTc (τ := Cert.TokensIdeal.τ) (Cert.TokensIdeal.main (F := Ideal))) ⟨m, fun _ => 0, g⟩ (fun r => (∀ c : Dev Cert.TokensIdeal.nD,
      r.2.mem ((c.tc : Thread Cert.TokensIdeal.nD Cert.TokensIdeal.τ).loc Cert.TokensIdeal.main_arg0) = m ((c.tc : Thread Cert.TokensIdeal.nD Cert.TokensIdeal.τ).loc Cert.TokensIdeal.main_arg0)
      ∧ r.2.mem ((c.tc : Thread Cert.TokensIdeal.nD Cert.TokensIdeal.τ).loc Cert.TokensIdeal.main_arg1) = m ((c.tc : Thread Cert.TokensIdeal.nD Cert.TokensIdeal.τ).loc Cert.TokensIdeal.main_arg1)
      ∧ r.2.mem ((c.tc : Thread Cert.TokensIdeal.nD Cert.TokensIdeal.τ).loc Cert.TokensIdeal.main_arg2) = m ((c.tc : Thread Cert.TokensIdeal.nD Cert.TokensIdeal.τ).loc Cert.TokensIdeal.main_arg2)
      ∧ r.2.mem ((c.tc : Thread Cert.TokensIdeal.nD Cert.TokensIdeal.τ).loc Cert.TokensIdeal.main_arg3) = m ((c.tc : Thread Cert.TokensIdeal.nD Cert.TokensIdeal.τ).loc Cert.TokensIdeal.main_arg3)
      ∧ r.2.mem ((c.tc : Thread Cert.TokensIdeal.nD Cert.TokensIdeal.τ).loc Cert.TokensIdeal.main_arg4) = m ((c.tc : Thread Cert.TokensIdeal.nD Cert.TokensIdeal.τ).loc Cert.TokensIdeal.main_arg4))
      ∧ r.2.sem = fun _ => 0)

def quiescent_TokensRefIdeal [hTokensRefIdeal : Cert.TokensRefIdeal.Facts] : Prop :=
  ∀ (m : (ℓ : Loc Cert.TokensRefIdeal.nD Cert.TokensRefIdeal.τ Cert.TokensRefIdeal.sig) → Buf (Elt Ideal) ℓ) (g : Dev Cert.TokensRefIdeal.nD → PrngReg), Pre_TokensRefIdeal m →
    θ_run (Cert.TokensRefIdeal.defs (F := Ideal)) (onTc (τ := Cert.TokensRefIdeal.τ) (Cert.TokensRefIdeal.main (F := Ideal))) ⟨m, fun _ => 0, g⟩ (fun r => (∀ c : Dev Cert.TokensRefIdeal.nD,
      r.2.mem ((c.tc : Thread Cert.TokensRefIdeal.nD Cert.TokensRefIdeal.τ).loc Cert.TokensRefIdeal.main_arg0) = m ((c.tc : Thread Cert.TokensRefIdeal.nD Cert.TokensRefIdeal.τ).loc Cert.TokensRefIdeal.main_arg0)
      ∧ r.2.mem ((c.tc : Thread Cert.TokensRefIdeal.nD Cert.TokensRefIdeal.τ).loc Cert.TokensRefIdeal.main_arg1) = m ((c.tc : Thread Cert.TokensRefIdeal.nD Cert.TokensRefIdeal.τ).loc Cert.TokensRefIdeal.main_arg1)
      ∧ r.2.mem ((c.tc : Thread Cert.TokensRefIdeal.nD Cert.TokensRefIdeal.τ).loc Cert.TokensRefIdeal.main_arg2) = m ((c.tc : Thread Cert.TokensRefIdeal.nD Cert.TokensRefIdeal.τ).loc Cert.TokensRefIdeal.main_arg2)
      ∧ r.2.mem ((c.tc : Thread Cert.TokensRefIdeal.nD Cert.TokensRefIdeal.τ).loc Cert.TokensRefIdeal.main_arg3) = m ((c.tc : Thread Cert.TokensRefIdeal.nD Cert.TokensRefIdeal.τ).loc Cert.TokensRefIdeal.main_arg3)
      ∧ r.2.mem ((c.tc : Thread Cert.TokensRefIdeal.nD Cert.TokensRefIdeal.τ).loc Cert.TokensRefIdeal.main_arg4) = m ((c.tc : Thread Cert.TokensRefIdeal.nD Cert.TokensRefIdeal.τ).loc Cert.TokensRefIdeal.main_arg4))
      ∧ r.2.sem = fun _ => 0)

def quiescent_Dilated [hDilated : Cert.Dilated.Facts] : Prop :=
  ∀ (m : (ℓ : Loc Cert.Dilated.nD Cert.Dilated.τ Cert.Dilated.sig) → Buf (Elt Bits) ℓ) (g : Dev Cert.Dilated.nD → PrngReg), Pre_Dilated m →
    θ_run (Cert.Dilated.defs (F := Bits)) (onTc (τ := Cert.Dilated.τ) (Cert.Dilated.main (F := Bits))) ⟨m, fun _ => 0, g⟩ (fun r => (∀ c : Dev Cert.Dilated.nD,
      r.2.mem ((c.tc : Thread Cert.Dilated.nD Cert.Dilated.τ).loc Cert.Dilated.main_arg0) = m ((c.tc : Thread Cert.Dilated.nD Cert.Dilated.τ).loc Cert.Dilated.main_arg0)
      ∧ r.2.mem ((c.tc : Thread Cert.Dilated.nD Cert.Dilated.τ).loc Cert.Dilated.main_arg1) = m ((c.tc : Thread Cert.Dilated.nD Cert.Dilated.τ).loc Cert.Dilated.main_arg1))
      ∧ r.2.sem = fun _ => 0)

def quiescent_DilatedIdeal [hDilatedIdeal : Cert.DilatedIdeal.Facts] : Prop :=
  ∀ (m : (ℓ : Loc Cert.DilatedIdeal.nD Cert.DilatedIdeal.τ Cert.DilatedIdeal.sig) → Buf (Elt Ideal) ℓ) (g : Dev Cert.DilatedIdeal.nD → PrngReg), Pre_DilatedIdeal m →
    θ_run (Cert.DilatedIdeal.defs (F := Ideal)) (onTc (τ := Cert.DilatedIdeal.τ) (Cert.DilatedIdeal.main (F := Ideal))) ⟨m, fun _ => 0, g⟩ (fun r => (∀ c : Dev Cert.DilatedIdeal.nD,
      r.2.mem ((c.tc : Thread Cert.DilatedIdeal.nD Cert.DilatedIdeal.τ).loc Cert.DilatedIdeal.main_arg0) = m ((c.tc : Thread Cert.DilatedIdeal.nD Cert.DilatedIdeal.τ).loc Cert.DilatedIdeal.main_arg0)
      ∧ r.2.mem ((c.tc : Thread Cert.DilatedIdeal.nD Cert.DilatedIdeal.τ).loc Cert.DilatedIdeal.main_arg1) = m ((c.tc : Thread Cert.DilatedIdeal.nD Cert.DilatedIdeal.τ).loc Cert.DilatedIdeal.main_arg1))
      ∧ r.2.sem = fun _ => 0)

def quiescent_Memory [hMemory : Cert.Memory.Facts] : Prop :=
  ∀ (m : (ℓ : Loc Cert.Memory.nD Cert.Memory.τ Cert.Memory.sig) → Buf (Elt Bits) ℓ) (g : Dev Cert.Memory.nD → PrngReg), Pre_Memory m →
    θ_run (Cert.Memory.defs (F := Bits)) (onTc (τ := Cert.Memory.τ) (Cert.Memory.main (F := Bits))) ⟨m, fun _ => 0, g⟩ (fun r => (∀ c : Dev Cert.Memory.nD,
      r.2.mem ((c.tc : Thread Cert.Memory.nD Cert.Memory.τ).loc Cert.Memory.main_arg0) = m ((c.tc : Thread Cert.Memory.nD Cert.Memory.τ).loc Cert.Memory.main_arg0)
      ∧ r.2.mem ((c.tc : Thread Cert.Memory.nD Cert.Memory.τ).loc Cert.Memory.main_arg1) = m ((c.tc : Thread Cert.Memory.nD Cert.Memory.τ).loc Cert.Memory.main_arg1))
      ∧ r.2.sem = fun _ => 0)

def quiescent_MemoryIdeal [hMemoryIdeal : Cert.MemoryIdeal.Facts] : Prop :=
  ∀ (m : (ℓ : Loc Cert.MemoryIdeal.nD Cert.MemoryIdeal.τ Cert.MemoryIdeal.sig) → Buf (Elt Ideal) ℓ) (g : Dev Cert.MemoryIdeal.nD → PrngReg), Pre_MemoryIdeal m →
    θ_run (Cert.MemoryIdeal.defs (F := Ideal)) (onTc (τ := Cert.MemoryIdeal.τ) (Cert.MemoryIdeal.main (F := Ideal))) ⟨m, fun _ => 0, g⟩ (fun r => (∀ c : Dev Cert.MemoryIdeal.nD,
      r.2.mem ((c.tc : Thread Cert.MemoryIdeal.nD Cert.MemoryIdeal.τ).loc Cert.MemoryIdeal.main_arg0) = m ((c.tc : Thread Cert.MemoryIdeal.nD Cert.MemoryIdeal.τ).loc Cert.MemoryIdeal.main_arg0)
      ∧ r.2.mem ((c.tc : Thread Cert.MemoryIdeal.nD Cert.MemoryIdeal.τ).loc Cert.MemoryIdeal.main_arg1) = m ((c.tc : Thread Cert.MemoryIdeal.nD Cert.MemoryIdeal.τ).loc Cert.MemoryIdeal.main_arg1))
      ∧ r.2.sem = fun _ => 0)

def quiescent_MemoryIdeal_pre_finite [hMemoryIdeal : Cert.MemoryIdeal.Facts] [hPre_finite : Cert.Pre_finite.Facts] : Prop :=
  ∀ (m : (ℓ : Loc Cert.MemoryIdeal.nD Cert.MemoryIdeal.τ Cert.MemoryIdeal.sig) → Buf (Elt Ideal) ℓ) (g : Dev Cert.MemoryIdeal.nD → PrngReg), Pre_MemoryIdeal_finite m →
    θ_run (Cert.MemoryIdeal.defs (F := Ideal)) (onTc (τ := Cert.MemoryIdeal.τ) (Cert.MemoryIdeal.main (F := Ideal))) ⟨m, fun _ => 0, g⟩ (fun r => (∀ c : Dev Cert.MemoryIdeal.nD,
      r.2.mem ((c.tc : Thread Cert.MemoryIdeal.nD Cert.MemoryIdeal.τ).loc Cert.MemoryIdeal.main_arg0) = m ((c.tc : Thread Cert.MemoryIdeal.nD Cert.MemoryIdeal.τ).loc Cert.MemoryIdeal.main_arg0)
      ∧ r.2.mem ((c.tc : Thread Cert.MemoryIdeal.nD Cert.MemoryIdeal.τ).loc Cert.MemoryIdeal.main_arg1) = m ((c.tc : Thread Cert.MemoryIdeal.nD Cert.MemoryIdeal.τ).loc Cert.MemoryIdeal.main_arg1))
      ∧ r.2.sem = fun _ => 0)

def quiescent_MemoryRefIdeal [hMemoryRefIdeal : Cert.MemoryRefIdeal.Facts] : Prop :=
  ∀ (m : (ℓ : Loc Cert.MemoryRefIdeal.nD Cert.MemoryRefIdeal.τ Cert.MemoryRefIdeal.sig) → Buf (Elt Ideal) ℓ) (g : Dev Cert.MemoryRefIdeal.nD → PrngReg), Pre_MemoryRefIdeal m →
    θ_run (Cert.MemoryRefIdeal.defs (F := Ideal)) (onTc (τ := Cert.MemoryRefIdeal.τ) (Cert.MemoryRefIdeal.main (F := Ideal))) ⟨m, fun _ => 0, g⟩ (fun r => (∀ c : Dev Cert.MemoryRefIdeal.nD,
      r.2.mem ((c.tc : Thread Cert.MemoryRefIdeal.nD Cert.MemoryRefIdeal.τ).loc Cert.MemoryRefIdeal.main_arg0) = m ((c.tc : Thread Cert.MemoryRefIdeal.nD Cert.MemoryRefIdeal.τ).loc Cert.MemoryRefIdeal.main_arg0)
      ∧ r.2.mem ((c.tc : Thread Cert.MemoryRefIdeal.nD Cert.MemoryRefIdeal.τ).loc Cert.MemoryRefIdeal.main_arg1) = m ((c.tc : Thread Cert.MemoryRefIdeal.nD Cert.MemoryRefIdeal.τ).loc Cert.MemoryRefIdeal.main_arg1))
      ∧ r.2.sem = fun _ => 0)

def quiescent_MemoryRefIdeal_pre_finite [hMemoryRefIdeal : Cert.MemoryRefIdeal.Facts] [hPre_finite : Cert.Pre_finite.Facts] : Prop :=
  ∀ (m : (ℓ : Loc Cert.MemoryRefIdeal.nD Cert.MemoryRefIdeal.τ Cert.MemoryRefIdeal.sig) → Buf (Elt Ideal) ℓ) (g : Dev Cert.MemoryRefIdeal.nD → PrngReg), Pre_MemoryRefIdeal_finite m →
    θ_run (Cert.MemoryRefIdeal.defs (F := Ideal)) (onTc (τ := Cert.MemoryRefIdeal.τ) (Cert.MemoryRefIdeal.main (F := Ideal))) ⟨m, fun _ => 0, g⟩ (fun r => (∀ c : Dev Cert.MemoryRefIdeal.nD,
      r.2.mem ((c.tc : Thread Cert.MemoryRefIdeal.nD Cert.MemoryRefIdeal.τ).loc Cert.MemoryRefIdeal.main_arg0) = m ((c.tc : Thread Cert.MemoryRefIdeal.nD Cert.MemoryRefIdeal.τ).loc Cert.MemoryRefIdeal.main_arg0)
      ∧ r.2.mem ((c.tc : Thread Cert.MemoryRefIdeal.nD Cert.MemoryRefIdeal.τ).loc Cert.MemoryRefIdeal.main_arg1) = m ((c.tc : Thread Cert.MemoryRefIdeal.nD Cert.MemoryRefIdeal.τ).loc Cert.MemoryRefIdeal.main_arg1))
      ∧ r.2.sem = fun _ => 0)

def preserves_OutProj_OutProjIdeal : Prop :=
  True

def algebraic_OutProjIdeal_OutRefIdeal [hOutProjIdeal : Cert.OutProjIdeal.Facts] [hOutRefIdeal : Cert.OutRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutProjIdeal m →
    (∀ c : Dev Cert.OutProjIdeal.nD,
      m' ((c.tc : Thread Cert.OutRefIdeal.nD Cert.OutRefIdeal.τ).loc Cert.OutRefIdeal.main_arg0) = m ((c.tc : Thread Cert.OutProjIdeal.nD Cert.OutProjIdeal.τ).loc Cert.OutProjIdeal.main_arg0)
      ∧ m' ((c.tc : Thread Cert.OutRefIdeal.nD Cert.OutRefIdeal.τ).loc Cert.OutRefIdeal.main_arg1) = m ((c.tc : Thread Cert.OutProjIdeal.nD Cert.OutProjIdeal.τ).loc Cert.OutProjIdeal.main_arg1)
      ∧ m' ((c.tc : Thread Cert.OutRefIdeal.nD Cert.OutRefIdeal.τ).loc Cert.OutRefIdeal.main_arg2) = m ((c.tc : Thread Cert.OutProjIdeal.nD Cert.OutProjIdeal.τ).loc Cert.OutProjIdeal.main_arg2)
      ∧ m' ((c.tc : Thread Cert.OutRefIdeal.nD Cert.OutRefIdeal.τ).loc Cert.OutRefIdeal.main_arg3) = m ((c.tc : Thread Cert.OutProjIdeal.nD Cert.OutProjIdeal.τ).loc Cert.OutProjIdeal.main_arg3)
      ∧ m' ((c.tc : Thread Cert.OutRefIdeal.nD Cert.OutRefIdeal.τ).loc Cert.OutRefIdeal.main_arg4) = m ((c.tc : Thread Cert.OutProjIdeal.nD Cert.OutProjIdeal.τ).loc Cert.OutProjIdeal.main_arg4)
      ∧ m' ((c.tc : Thread Cert.OutRefIdeal.nD Cert.OutRefIdeal.τ).loc Cert.OutRefIdeal.main_arg5) = m ((c.tc : Thread Cert.OutProjIdeal.nD Cert.OutProjIdeal.τ).loc Cert.OutProjIdeal.main_arg5)) →
    ∃ (v0 : (c : Dev Cert.OutProjIdeal.nD) → Buf (Elt Ideal) ((c.tc : Thread Cert.OutProjIdeal.nD Cert.OutProjIdeal.τ).loc Cert.OutProjIdeal.main_v6)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v6) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
          ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v17) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4)
          ∧ r.2.mem ((c.tc : Thread Cert.OutRefIdeal.nD Cert.OutRefIdeal.τ).loc Cert.OutRefIdeal.main_arg5) = m' ((c.tc : Thread Cert.OutRefIdeal.nD Cert.OutRefIdeal.τ).loc Cert.OutRefIdeal.main_arg5))

def preserves_InProj_InProjIdeal : Prop :=
  IdealRules.named_const.Statement Cert.InProjIdeal.κ "unit" .f32 0x3E0293EE#32 ((((Real.sqrt 128) * (Real.log 2))⁻¹ : ℝ) : EReal)

def algebraic_InProjIdeal_InRefIdeal [hInProjIdeal : Cert.InProjIdeal.Facts] [hInRefIdeal : Cert.InRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InRefIdeal.nD Cert.InRefIdeal.τ Cert.InRefIdeal.sig) → Buf (Elt Ideal) ℓ) (g' : Dev Cert.InRefIdeal.nD → PrngReg), Pre_InProjIdeal m →
    (∀ c : Dev Cert.InProjIdeal.nD,
      m' ((c.tc : Thread Cert.InRefIdeal.nD Cert.InRefIdeal.τ).loc Cert.InRefIdeal.main_arg0) = m ((c.tc : Thread Cert.InProjIdeal.nD Cert.InProjIdeal.τ).loc Cert.InProjIdeal.main_arg0)
      ∧ m' ((c.tc : Thread Cert.InRefIdeal.nD Cert.InRefIdeal.τ).loc Cert.InRefIdeal.main_arg1) = m ((c.tc : Thread Cert.InProjIdeal.nD Cert.InProjIdeal.τ).loc Cert.InProjIdeal.main_arg1)
      ∧ m' ((c.tc : Thread Cert.InRefIdeal.nD Cert.InRefIdeal.τ).loc Cert.InRefIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v22_0)) (v1 : (c : Dev Cert.InProjIdeal.nD) → Buf (Elt Ideal) ((c.tc : Thread Cert.InProjIdeal.nD Cert.InProjIdeal.τ).loc Cert.InProjIdeal.main_v22_1)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v22_0) = v0 c
          ∧ r.2.mem ((c.tc : Thread Cert.InProjIdeal.nD Cert.InProjIdeal.τ).loc Cert.InProjIdeal.main_v22_1) = v1 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v87) = v0 c
          ∧ r.2.mem ((c.tc : Thread Cert.InRefIdeal.nD Cert.InRefIdeal.τ).loc Cert.InRefIdeal.main_v89) = v1 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1)
          ∧ r.2.mem ((c.tc : Thread Cert.InRefIdeal.nD Cert.InRefIdeal.τ).loc Cert.InRefIdeal.main_arg2) = m' ((c.tc : Thread Cert.InRefIdeal.nD Cert.InRefIdeal.τ).loc Cert.InRefIdeal.main_arg2))

def preserves_MidProj_MidProjIdeal : Prop :=
  True

def algebraic_MidProjIdeal_MidRefIdeal [hMidProjIdeal : Cert.MidProjIdeal.Facts] [hMidRefIdeal : Cert.MidRefIdeal.Facts] : Prop :=
  ∀ (m : (ℓ : Loc Cert.MidProjIdeal.nD Cert.MidProjIdeal.τ Cert.MidProjIdeal.sig) → Buf (Elt Ideal) ℓ) (g : Dev Cert.MidProjIdeal.nD → PrngReg)
    (m' : (ℓ : Loc Cert.MidRefIdeal.nD Cert.MidRefIdeal.τ Cert.MidRefIdeal.sig) → Buf (Elt Ideal) ℓ) (g' : Dev Cert.MidRefIdeal.nD → PrngReg), Pre_MidProjIdeal m →
    (∀ c : Dev Cert.MidProjIdeal.nD,
      m' ((c.tc : Thread Cert.MidRefIdeal.nD Cert.MidRefIdeal.τ).loc Cert.MidRefIdeal.main_arg0) = m ((c.tc : Thread Cert.MidProjIdeal.nD Cert.MidProjIdeal.τ).loc Cert.MidProjIdeal.main_arg0)
      ∧ m' ((c.tc : Thread Cert.MidRefIdeal.nD Cert.MidRefIdeal.τ).loc Cert.MidRefIdeal.main_arg1) = m ((c.tc : Thread Cert.MidProjIdeal.nD Cert.MidProjIdeal.τ).loc Cert.MidProjIdeal.main_arg1)
      ∧ m' ((c.tc : Thread Cert.MidRefIdeal.nD Cert.MidRefIdeal.τ).loc Cert.MidRefIdeal.main_arg2) = m ((c.tc : Thread Cert.MidProjIdeal.nD Cert.MidProjIdeal.τ).loc Cert.MidProjIdeal.main_arg2)
      ∧ m' ((c.tc : Thread Cert.MidRefIdeal.nD Cert.MidRefIdeal.τ).loc Cert.MidRefIdeal.main_arg3) = m ((c.tc : Thread Cert.MidProjIdeal.nD Cert.MidProjIdeal.τ).loc Cert.MidProjIdeal.main_arg3)
      ∧ m' ((c.tc : Thread Cert.MidRefIdeal.nD Cert.MidRefIdeal.τ).loc Cert.MidRefIdeal.main_arg4) = m ((c.tc : Thread Cert.MidProjIdeal.nD Cert.MidProjIdeal.τ).loc Cert.MidProjIdeal.main_arg4)
      ∧ m' ((c.tc : Thread Cert.MidRefIdeal.nD Cert.MidRefIdeal.τ).loc Cert.MidRefIdeal.main_arg5) = m ((c.tc : Thread Cert.MidProjIdeal.nD Cert.MidProjIdeal.τ).loc Cert.MidProjIdeal.main_arg5)
      ∧ m' ((c.tc : Thread Cert.MidRefIdeal.nD Cert.MidRefIdeal.τ).loc Cert.MidRefIdeal.main_arg6) = m ((c.tc : Thread Cert.MidProjIdeal.nD Cert.MidProjIdeal.τ).loc Cert.MidProjIdeal.main_arg6)) →
    ∃ (v0 : (c : Dev Cert.MidProjIdeal.nD) → Buf (Elt Ideal) ((c.tc : Thread Cert.MidProjIdeal.nD Cert.MidProjIdeal.τ).loc Cert.MidProjIdeal.main_v6_0)) (v1 : (c : Dev Cert.MidProjIdeal.nD) → Buf (Elt Ideal) ((c.tc : Thread Cert.MidProjIdeal.nD Cert.MidProjIdeal.τ).loc Cert.MidProjIdeal.main_v6_1)),
      θ_run (Cert.MidProjIdeal.defs (F := Ideal)) (onTc (τ := Cert.MidProjIdeal.τ) (Cert.MidProjIdeal.main (F := Ideal))) ⟨m, fun _ => 0, g⟩ (fun r => ∀ c : Dev Cert.MidProjIdeal.nD,
          r.2.mem ((c.tc : Thread Cert.MidProjIdeal.nD Cert.MidProjIdeal.τ).loc Cert.MidProjIdeal.main_v6_0) = v0 c
          ∧ r.2.mem ((c.tc : Thread Cert.MidProjIdeal.nD Cert.MidProjIdeal.τ).loc Cert.MidProjIdeal.main_v6_1) = v1 c
          ∧ r.2.mem ((c.tc : Thread Cert.MidProjIdeal.nD Cert.MidProjIdeal.τ).loc Cert.MidProjIdeal.main_arg0) = m ((c.tc : Thread Cert.MidProjIdeal.nD Cert.MidProjIdeal.τ).loc Cert.MidProjIdeal.main_arg0)
          ∧ r.2.mem ((c.tc : Thread Cert.MidProjIdeal.nD Cert.MidProjIdeal.τ).loc Cert.MidProjIdeal.main_arg1) = m ((c.tc : Thread Cert.MidProjIdeal.nD Cert.MidProjIdeal.τ).loc Cert.MidProjIdeal.main_arg1)
          ∧ r.2.mem ((c.tc : Thread Cert.MidProjIdeal.nD Cert.MidProjIdeal.τ).loc Cert.MidProjIdeal.main_arg2) = m ((c.tc : Thread Cert.MidProjIdeal.nD Cert.MidProjIdeal.τ).loc Cert.MidProjIdeal.main_arg2)
          ∧ r.2.mem ((c.tc : Thread Cert.MidProjIdeal.nD Cert.MidProjIdeal.τ).loc Cert.MidProjIdeal.main_arg3) = m ((c.tc : Thread Cert.MidProjIdeal.nD Cert.MidProjIdeal.τ).loc Cert.MidProjIdeal.main_arg3)
          ∧ r.2.mem ((c.tc : Thread Cert.MidProjIdeal.nD Cert.MidProjIdeal.τ).loc Cert.MidProjIdeal.main_arg4) = m ((c.tc : Thread Cert.MidProjIdeal.nD Cert.MidProjIdeal.τ).loc Cert.MidProjIdeal.main_arg4)
          ∧ r.2.mem ((c.tc : Thread Cert.MidProjIdeal.nD Cert.MidProjIdeal.τ).loc Cert.MidProjIdeal.main_arg5) = m ((c.tc : Thread Cert.MidProjIdeal.nD Cert.MidProjIdeal.τ).loc Cert.MidProjIdeal.main_arg5)
          ∧ r.2.mem ((c.tc : Thread Cert.MidProjIdeal.nD Cert.MidProjIdeal.τ).loc Cert.MidProjIdeal.main_arg6) = m ((c.tc : Thread Cert.MidProjIdeal.nD Cert.MidProjIdeal.τ).loc Cert.MidProjIdeal.main_arg6))
      ∧ θ_run (Cert.MidRefIdeal.defs (F := Ideal)) (onTc (τ := Cert.MidRefIdeal.τ) (Cert.MidRefIdeal.main (F := Ideal))) ⟨m', fun _ => 0, g'⟩ (fun r => ∀ c : Dev Cert.MidRefIdeal.nD,
          r.2.mem ((c.tc : Thread Cert.MidRefIdeal.nD Cert.MidRefIdeal.τ).loc Cert.MidRefIdeal.main_v4) = v0 c
          ∧ r.2.mem ((c.tc : Thread Cert.MidRefIdeal.nD Cert.MidRefIdeal.τ).loc Cert.MidRefIdeal.main_v6) = v1 c
          ∧ r.2.mem ((c.tc : Thread Cert.MidRefIdeal.nD Cert.MidRefIdeal.τ).loc Cert.MidRefIdeal.main_arg0) = m' ((c.tc : Thread Cert.MidRefIdeal.nD Cert.MidRefIdeal.τ).loc Cert.MidRefIdeal.main_arg0)
          ∧ r.2.mem ((c.tc : Thread Cert.MidRefIdeal.nD Cert.MidRefIdeal.τ).loc Cert.MidRefIdeal.main_arg1) = m' ((c.tc : Thread Cert.MidRefIdeal.nD Cert.MidRefIdeal.τ).loc Cert.MidRefIdeal.main_arg1)
          ∧ r.2.mem ((c.tc : Thread Cert.MidRefIdeal.nD Cert.MidRefIdeal.τ).loc Cert.MidRefIdeal.main_arg2) = m' ((c.tc : Thread Cert.MidRefIdeal.nD Cert.MidRefIdeal.τ).loc Cert.MidRefIdeal.main_arg2)
          ∧ r.2.mem ((c.tc : Thread Cert.MidRefIdeal.nD Cert.MidRefIdeal.τ).loc Cert.MidRefIdeal.main_arg3) = m' ((c.tc : Thread Cert.MidRefIdeal.nD Cert.MidRefIdeal.τ).loc Cert.MidRefIdeal.main_arg3)
          ∧ r.2.mem ((c.tc : Thread Cert.MidRefIdeal.nD Cert.MidRefIdeal.τ).loc Cert.MidRefIdeal.main_arg4) = m' ((c.tc : Thread Cert.MidRefIdeal.nD Cert.MidRefIdeal.τ).loc Cert.MidRefIdeal.main_arg4)
          ∧ r.2.mem ((c.tc : Thread Cert.MidRefIdeal.nD Cert.MidRefIdeal.τ).loc Cert.MidRefIdeal.main_arg5) = m' ((c.tc : Thread Cert.MidRefIdeal.nD Cert.MidRefIdeal.τ).loc Cert.MidRefIdeal.main_arg5)
          ∧ r.2.mem ((c.tc : Thread Cert.MidRefIdeal.nD Cert.MidRefIdeal.τ).loc Cert.MidRefIdeal.main_arg6) = m' ((c.tc : Thread Cert.MidRefIdeal.nD Cert.MidRefIdeal.τ).loc Cert.MidRefIdeal.main_arg6))

def preserves_Tokens_TokensIdeal : Prop :=
  True

def algebraic_TokensIdeal_TokensRefIdeal [hTokensIdeal : Cert.TokensIdeal.Facts] [hTokensRefIdeal : Cert.TokensRefIdeal.Facts] : Prop :=
  ∀ (m : (ℓ : Loc Cert.TokensIdeal.nD Cert.TokensIdeal.τ Cert.TokensIdeal.sig) → Buf (Elt Ideal) ℓ) (g : Dev Cert.TokensIdeal.nD → PrngReg)
    (m' : (ℓ : Loc Cert.TokensRefIdeal.nD Cert.TokensRefIdeal.τ Cert.TokensRefIdeal.sig) → Buf (Elt Ideal) ℓ) (g' : Dev Cert.TokensRefIdeal.nD → PrngReg), Pre_TokensIdeal m →
    (∀ c : Dev Cert.TokensIdeal.nD,
      m' ((c.tc : Thread Cert.TokensRefIdeal.nD Cert.TokensRefIdeal.τ).loc Cert.TokensRefIdeal.main_arg0) = m ((c.tc : Thread Cert.TokensIdeal.nD Cert.TokensIdeal.τ).loc Cert.TokensIdeal.main_arg0)
      ∧ m' ((c.tc : Thread Cert.TokensRefIdeal.nD Cert.TokensRefIdeal.τ).loc Cert.TokensRefIdeal.main_arg1) = m ((c.tc : Thread Cert.TokensIdeal.nD Cert.TokensIdeal.τ).loc Cert.TokensIdeal.main_arg1)
      ∧ m' ((c.tc : Thread Cert.TokensRefIdeal.nD Cert.TokensRefIdeal.τ).loc Cert.TokensRefIdeal.main_arg2) = m ((c.tc : Thread Cert.TokensIdeal.nD Cert.TokensIdeal.τ).loc Cert.TokensIdeal.main_arg2)
      ∧ m' ((c.tc : Thread Cert.TokensRefIdeal.nD Cert.TokensRefIdeal.τ).loc Cert.TokensRefIdeal.main_arg3) = m ((c.tc : Thread Cert.TokensIdeal.nD Cert.TokensIdeal.τ).loc Cert.TokensIdeal.main_arg3)
      ∧ m' ((c.tc : Thread Cert.TokensRefIdeal.nD Cert.TokensRefIdeal.τ).loc Cert.TokensRefIdeal.main_arg4) = m ((c.tc : Thread Cert.TokensIdeal.nD Cert.TokensIdeal.τ).loc Cert.TokensIdeal.main_arg4)) →
    ∃ (v0 : (c : Dev Cert.TokensIdeal.nD) → Buf (Elt Ideal) ((c.tc : Thread Cert.TokensIdeal.nD Cert.TokensIdeal.τ).loc Cert.TokensIdeal.main_v3_0)) (v1 : (c : Dev Cert.TokensIdeal.nD) → Buf (Elt Ideal) ((c.tc : Thread Cert.TokensIdeal.nD Cert.TokensIdeal.τ).loc Cert.TokensIdeal.main_v3_1)) (v2 : (c : Dev Cert.TokensIdeal.nD) → Buf (Elt Ideal) ((c.tc : Thread Cert.TokensIdeal.nD Cert.TokensIdeal.τ).loc Cert.TokensIdeal.main_v3_2)),
      θ_run (Cert.TokensIdeal.defs (F := Ideal)) (onTc (τ := Cert.TokensIdeal.τ) (Cert.TokensIdeal.main (F := Ideal))) ⟨m, fun _ => 0, g⟩ (fun r => ∀ c : Dev Cert.TokensIdeal.nD,
          r.2.mem ((c.tc : Thread Cert.TokensIdeal.nD Cert.TokensIdeal.τ).loc Cert.TokensIdeal.main_v3_0) = v0 c
          ∧ r.2.mem ((c.tc : Thread Cert.TokensIdeal.nD Cert.TokensIdeal.τ).loc Cert.TokensIdeal.main_v3_1) = v1 c
          ∧ r.2.mem ((c.tc : Thread Cert.TokensIdeal.nD Cert.TokensIdeal.τ).loc Cert.TokensIdeal.main_v3_2) = v2 c
          ∧ r.2.mem ((c.tc : Thread Cert.TokensIdeal.nD Cert.TokensIdeal.τ).loc Cert.TokensIdeal.main_arg0) = m ((c.tc : Thread Cert.TokensIdeal.nD Cert.TokensIdeal.τ).loc Cert.TokensIdeal.main_arg0)
          ∧ r.2.mem ((c.tc : Thread Cert.TokensIdeal.nD Cert.TokensIdeal.τ).loc Cert.TokensIdeal.main_arg1) = m ((c.tc : Thread Cert.TokensIdeal.nD Cert.TokensIdeal.τ).loc Cert.TokensIdeal.main_arg1)
          ∧ r.2.mem ((c.tc : Thread Cert.TokensIdeal.nD Cert.TokensIdeal.τ).loc Cert.TokensIdeal.main_arg2) = m ((c.tc : Thread Cert.TokensIdeal.nD Cert.TokensIdeal.τ).loc Cert.TokensIdeal.main_arg2)
          ∧ r.2.mem ((c.tc : Thread Cert.TokensIdeal.nD Cert.TokensIdeal.τ).loc Cert.TokensIdeal.main_arg3) = m ((c.tc : Thread Cert.TokensIdeal.nD Cert.TokensIdeal.τ).loc Cert.TokensIdeal.main_arg3)
          ∧ r.2.mem ((c.tc : Thread Cert.TokensIdeal.nD Cert.TokensIdeal.τ).loc Cert.TokensIdeal.main_arg4) = m ((c.tc : Thread Cert.TokensIdeal.nD Cert.TokensIdeal.τ).loc Cert.TokensIdeal.main_arg4))
      ∧ θ_run (Cert.TokensRefIdeal.defs (F := Ideal)) (onTc (τ := Cert.TokensRefIdeal.τ) (Cert.TokensRefIdeal.main (F := Ideal))) ⟨m', fun _ => 0, g'⟩ (fun r => ∀ c : Dev Cert.TokensRefIdeal.nD,
          r.2.mem ((c.tc : Thread Cert.TokensRefIdeal.nD Cert.TokensRefIdeal.τ).loc Cert.TokensRefIdeal.main_v17) = v0 c
          ∧ r.2.mem ((c.tc : Thread Cert.TokensRefIdeal.nD Cert.TokensRefIdeal.τ).loc Cert.TokensRefIdeal.main_v20) = v1 c
          ∧ r.2.mem ((c.tc : Thread Cert.TokensRefIdeal.nD Cert.TokensRefIdeal.τ).loc Cert.TokensRefIdeal.main_v23) = v2 c
          ∧ r.2.mem ((c.tc : Thread Cert.TokensRefIdeal.nD Cert.TokensRefIdeal.τ).loc Cert.TokensRefIdeal.main_arg0) = m' ((c.tc : Thread Cert.TokensRefIdeal.nD Cert.TokensRefIdeal.τ).loc Cert.TokensRefIdeal.main_arg0)
          ∧ r.2.mem ((c.tc : Thread Cert.TokensRefIdeal.nD Cert.TokensRefIdeal.τ).loc Cert.TokensRefIdeal.main_arg1) = m' ((c.tc : Thread Cert.TokensRefIdeal.nD Cert.TokensRefIdeal.τ).loc Cert.TokensRefIdeal.main_arg1)
          ∧ r.2.mem ((c.tc : Thread Cert.TokensRefIdeal.nD Cert.TokensRefIdeal.τ).loc Cert.TokensRefIdeal.main_arg2) = m' ((c.tc : Thread Cert.TokensRefIdeal.nD Cert.TokensRefIdeal.τ).loc Cert.TokensRefIdeal.main_arg2)
          ∧ r.2.mem ((c.tc : Thread Cert.TokensRefIdeal.nD Cert.TokensRefIdeal.τ).loc Cert.TokensRefIdeal.main_arg3) = m' ((c.tc : Thread Cert.TokensRefIdeal.nD Cert.TokensRefIdeal.τ).loc Cert.TokensRefIdeal.main_arg3)
          ∧ r.2.mem ((c.tc : Thread Cert.TokensRefIdeal.nD Cert.TokensRefIdeal.τ).loc Cert.TokensRefIdeal.main_arg4) = m' ((c.tc : Thread Cert.TokensRefIdeal.nD Cert.TokensRefIdeal.τ).loc Cert.TokensRefIdeal.main_arg4))

def preserves_Dilated_DilatedIdeal : Prop :=
  True

def preserves_Memory_MemoryIdeal : Prop :=
  True

def algebraic_MemoryIdeal_MemoryRefIdeal_pre_finite [hMemoryIdeal : Cert.MemoryIdeal.Facts] [hMemoryRefIdeal : Cert.MemoryRefIdeal.Facts] [hPre_finite : Cert.Pre_finite.Facts] : Prop :=
  ∀ (m : (ℓ : Loc Cert.MemoryIdeal.nD Cert.MemoryIdeal.τ Cert.MemoryIdeal.sig) → Buf (Elt Ideal) ℓ) (g : Dev Cert.MemoryIdeal.nD → PrngReg)
    (m' : (ℓ : Loc Cert.MemoryRefIdeal.nD Cert.MemoryRefIdeal.τ Cert.MemoryRefIdeal.sig) → Buf (Elt Ideal) ℓ) (g' : Dev Cert.MemoryRefIdeal.nD → PrngReg), Pre_MemoryIdeal_finite m →
    (∀ c : Dev Cert.MemoryIdeal.nD,
      m' ((c.tc : Thread Cert.MemoryRefIdeal.nD Cert.MemoryRefIdeal.τ).loc Cert.MemoryRefIdeal.main_arg0) = m ((c.tc : Thread Cert.MemoryIdeal.nD Cert.MemoryIdeal.τ).loc Cert.MemoryIdeal.main_arg0)
      ∧ m' ((c.tc : Thread Cert.MemoryRefIdeal.nD Cert.MemoryRefIdeal.τ).loc Cert.MemoryRefIdeal.main_arg1) = m ((c.tc : Thread Cert.MemoryIdeal.nD Cert.MemoryIdeal.τ).loc Cert.MemoryIdeal.main_arg1)) →
    ∃ (v0 : (c : Dev Cert.MemoryIdeal.nD) → Buf (Elt Ideal) ((c.tc : Thread Cert.MemoryIdeal.nD Cert.MemoryIdeal.τ).loc Cert.MemoryIdeal.main_v44_1)),
      θ_run (Cert.MemoryIdeal.defs (F := Ideal)) (onTc (τ := Cert.MemoryIdeal.τ) (Cert.MemoryIdeal.main (F := Ideal))) ⟨m, fun _ => 0, g⟩ (fun r => ∀ c : Dev Cert.MemoryIdeal.nD,
          r.2.mem ((c.tc : Thread Cert.MemoryIdeal.nD Cert.MemoryIdeal.τ).loc Cert.MemoryIdeal.main_v44_1) = v0 c
          ∧ r.2.mem ((c.tc : Thread Cert.MemoryIdeal.nD Cert.MemoryIdeal.τ).loc Cert.MemoryIdeal.main_arg0) = m ((c.tc : Thread Cert.MemoryIdeal.nD Cert.MemoryIdeal.τ).loc Cert.MemoryIdeal.main_arg0)
          ∧ r.2.mem ((c.tc : Thread Cert.MemoryIdeal.nD Cert.MemoryIdeal.τ).loc Cert.MemoryIdeal.main_arg1) = m ((c.tc : Thread Cert.MemoryIdeal.nD Cert.MemoryIdeal.τ).loc Cert.MemoryIdeal.main_arg1))
      ∧ θ_run (Cert.MemoryRefIdeal.defs (F := Ideal)) (onTc (τ := Cert.MemoryRefIdeal.τ) (Cert.MemoryRefIdeal.main (F := Ideal))) ⟨m', fun _ => 0, g'⟩ (fun r => ∀ c : Dev Cert.MemoryRefIdeal.nD,
          r.2.mem ((c.tc : Thread Cert.MemoryRefIdeal.nD Cert.MemoryRefIdeal.τ).loc Cert.MemoryRefIdeal.main_v31) = v0 c
          ∧ r.2.mem ((c.tc : Thread Cert.MemoryRefIdeal.nD Cert.MemoryRefIdeal.τ).loc Cert.MemoryRefIdeal.main_arg0) = m' ((c.tc : Thread Cert.MemoryRefIdeal.nD Cert.MemoryRefIdeal.τ).loc Cert.MemoryRefIdeal.main_arg0)
          ∧ r.2.mem ((c.tc : Thread Cert.MemoryRefIdeal.nD Cert.MemoryRefIdeal.τ).loc Cert.MemoryRefIdeal.main_arg1) = m' ((c.tc : Thread Cert.MemoryRefIdeal.nD Cert.MemoryRefIdeal.τ).loc Cert.MemoryRefIdeal.main_arg1))

def Claim : Prop :=
  ∃ (hOutProj : Cert.OutProj.Facts) (hOutProjIdeal : Cert.OutProjIdeal.Facts) (hOutRefIdeal : Cert.OutRefIdeal.Facts) (hInProj : Cert.InProj.Facts) (hInProjIdeal : Cert.InProjIdeal.Facts) (hInRefIdeal : Cert.InRefIdeal.Facts) (hMidProj : Cert.MidProj.Facts) (hMidProjIdeal : Cert.MidProjIdeal.Facts) (hMidRefIdeal : Cert.MidRefIdeal.Facts) (hTokens : Cert.Tokens.Facts) (hTokensIdeal : Cert.TokensIdeal.Facts) (hTokensRefIdeal : Cert.TokensRefIdeal.Facts) (hDilated : Cert.Dilated.Facts) (hDilatedIdeal : Cert.DilatedIdeal.Facts) (hMemory : Cert.Memory.Facts) (hMemoryIdeal : Cert.MemoryIdeal.Facts) (hMemoryRefIdeal : Cert.MemoryRefIdeal.Facts) (hPre_finite : Cert.Pre_finite.Facts),
    quiescent_OutProj (hOutProj := hOutProj)
    ∧ quiescent_OutProjIdeal (hOutProjIdeal := hOutProjIdeal)
    ∧ quiescent_OutRefIdeal (hOutRefIdeal := hOutRefIdeal)
    ∧ quiescent_InProj (hInProj := hInProj)
    ∧ quiescent_InProjIdeal (hInProjIdeal := hInProjIdeal)
    ∧ quiescent_InRefIdeal (hInRefIdeal := hInRefIdeal)
    ∧ quiescent_MidProj (hMidProj := hMidProj)
    ∧ quiescent_MidProjIdeal (hMidProjIdeal := hMidProjIdeal)
    ∧ quiescent_MidRefIdeal (hMidRefIdeal := hMidRefIdeal)
    ∧ quiescent_Tokens (hTokens := hTokens)
    ∧ quiescent_TokensIdeal (hTokensIdeal := hTokensIdeal)
    ∧ quiescent_TokensRefIdeal (hTokensRefIdeal := hTokensRefIdeal)
    ∧ quiescent_Dilated (hDilated := hDilated)
    ∧ quiescent_DilatedIdeal (hDilatedIdeal := hDilatedIdeal)
    ∧ quiescent_Memory (hMemory := hMemory)
    ∧ quiescent_MemoryIdeal (hMemoryIdeal := hMemoryIdeal)
    ∧ quiescent_MemoryIdeal_pre_finite (hMemoryIdeal := hMemoryIdeal) (hPre_finite := hPre_finite)
    ∧ quiescent_MemoryRefIdeal (hMemoryRefIdeal := hMemoryRefIdeal)
    ∧ quiescent_MemoryRefIdeal_pre_finite (hMemoryRefIdeal := hMemoryRefIdeal) (hPre_finite := hPre_finite)
    ∧ preserves_OutProj_OutProjIdeal
    ∧ algebraic_OutProjIdeal_OutRefIdeal (hOutProjIdeal := hOutProjIdeal) (hOutRefIdeal := hOutRefIdeal)
    ∧ preserves_InProj_InProjIdeal
    ∧ algebraic_InProjIdeal_InRefIdeal (hInProjIdeal := hInProjIdeal) (hInRefIdeal := hInRefIdeal)
    ∧ preserves_MidProj_MidProjIdeal
    ∧ algebraic_MidProjIdeal_MidRefIdeal (hMidProjIdeal := hMidProjIdeal) (hMidRefIdeal := hMidRefIdeal)
    ∧ preserves_Tokens_TokensIdeal
    ∧ algebraic_TokensIdeal_TokensRefIdeal (hTokensIdeal := hTokensIdeal) (hTokensRefIdeal := hTokensRefIdeal)
    ∧ preserves_Dilated_DilatedIdeal
    ∧ preserves_Memory_MemoryIdeal
    ∧ algebraic_MemoryIdeal_MemoryRefIdeal_pre_finite (hMemoryIdeal := hMemoryIdeal) (hMemoryRefIdeal := hMemoryRefIdeal) (hPre_finite := hPre_finite)
-- ==== Pre_finite.lean ====
abbrev S32768x7168 : Shape := ⟨2, ![32768, 7168]⟩
abbrev S4096x1024 : Shape := ⟨2, ![4096, 1024]⟩
abbrev S32768x512 : Shape := ⟨2, ![32768, 512]⟩
abbrev S4096x512 : Shape := ⟨2, ![4096, 512]⟩
abbrev S_ : Shape := ⟨0, ![]⟩

class Facts : Prop where
  slices_S32768x7168_S32768x512_0_6144 : S32768x7168.Slices ![0, 6144] S32768x512
  bitsLt_bf16_f32 : FTy.bits .bf16 < FTy.bits .f32
  slices_S4096x1024_S4096x512_0_0 : S4096x1024.Slices ![0, 0] S4096x512
  bcast_S_S32768x512 : S_.BroadcastsInDim S32768x512 (![] : Fin 0 → Fin S32768x512.rank)
  reducesTo_S32768x512_S_d0_1 : S32768x512.ReducesTo [0, 1] S_
  h_S_ : 0 < S_.numel
  bcast_S_S4096x512 : S_.BroadcastsInDim S4096x512 (![] : Fin 0 → Fin S4096x512.rank)
  reducesTo_S4096x512_S_d0_1 : S4096x512.ReducesTo [0, 1] S_

variable [Facts]

def fn {F : FTy → Type} [FloatOps F] (main_arg0 : FVec F S32768x7168 .bf16) (main_arg1 : FVec F S4096x1024 .bf16) : IVec S_ 1 :=
  let main_v0 : FVec F S32768x512 .bf16 := (extractStridedSlice S32768x512 ![0, 6144] · slices_S32768x7168_S32768x512_0_6144) main_arg0
  let main_v1 : FVec F S32768x512 .f32 := (extf .f32 · bitsLt_bf16_f32) main_v0
  let main_v2 : FVec F S4096x512 .bf16 := (extractStridedSlice S4096x512 ![0, 0] · slices_S4096x1024_S4096x512_0_0) main_arg1
  let main_v3 : FVec F S4096x512 .f32 := (extf .f32 · bitsLt_bf16_f32) main_v2
  let main_v4 : FVec F S32768x512 .f32 := Host.absf main_v1
  let main_cst : FVec F S_ .f32 := constant S_ .f32 0x7F800000#32
  let main_v5 : FVec F S32768x512 .f32 := broadcastInDim S32768x512 ![] bcast_S_S32768x512 main_cst
  let main_v6 : IVec S32768x512 1 := cmpf .olt main_v4 main_v5
  let main_c : IVec S_ 1 := constantI S_ 1 1#1
  let main_v7 : IVec S_ 1 := (fun x v => Host.reduce IntOp.andi x v reducesTo_S32768x512_S_d0_1 h_S_) main_v6 main_c
  let main_v8 : FVec F S4096x512 .f32 := Host.absf main_v3
  let main_cst_0 : FVec F S_ .f32 := constant S_ .f32 0x7F800000#32
  let main_v9 : FVec F S4096x512 .f32 := broadcastInDim S4096x512 ![] bcast_S_S4096x512 main_cst_0
  let main_v10 : IVec S4096x512 1 := cmpf .olt main_v8 main_v9
  let main_c_1 : IVec S_ 1 := constantI S_ 1 1#1
  let main_v11 : IVec S_ 1 := (fun x v => Host.reduce IntOp.andi x v reducesTo_S4096x512_S_d0_1 h_S_) main_v10 main_c_1
  let main_v12 : IVec S_ 1 := andi main_v7 main_v11
  main_v12
-- ==== OutProj.lean ====
abbrev S16x2048x2048 : Shape := ⟨3, ![16, 2048, 2048]⟩
abbrev S16x2048x768 : Shape := ⟨3, ![16, 2048, 768]⟩
abbrev S16x2048x512 : Shape := ⟨3, ![16, 2048, 512]⟩
abbrev S2048x2048 : Shape := ⟨2, ![2048, 2048]⟩
abbrev S2048 : Shape := ⟨1, ![2048]⟩
abbrev S32768x2048 : Shape := ⟨2, ![32768, 2048]⟩
abbrev S32768x768 : Shape := ⟨2, ![32768, 768]⟩
abbrev S32768x512 : Shape := ⟨2, ![32768, 512]⟩
abbrev S1x2048 : Shape := ⟨2, ![1, 2048]⟩
abbrev S1024x2048 : Shape := ⟨2, ![1024, 2048]⟩
abbrev S1024x768 : Shape := ⟨2, ![1024, 768]⟩
abbrev S1024x512 : Shape := ⟨2, ![1024, 512]⟩
abbrev S768x2048 : Shape := ⟨2, ![768, 2048]⟩
abbrev S512x2048 : Shape := ⟨2, ![512, 2048]⟩
abbrev S1024 : Shape := ⟨1, ![1024]⟩
abbrev S1024x1 : Shape := ⟨2, ![1024, 1]⟩

abbrev nBuf : Space → Nat
  | .hbm => 13
  | .vmem => 12
  | .smem => 0
  | _ => 0

abbrev bufTy : (tb : Table) → Fin (tcTables nBuf tb) → BufTy
  | .hbm, ⟨0, _⟩ => ⟨S16x2048x2048, .f32⟩
  | .hbm, ⟨1, _⟩ => ⟨S16x2048x768, .bf16⟩
  | .hbm, ⟨2, _⟩ => ⟨S16x2048x768, .bf16⟩
  | .hbm, ⟨3, _⟩ => ⟨S16x2048x512, .bf16⟩
  | .hbm, ⟨4, _⟩ => ⟨S2048x2048, .f32⟩
  | .hbm, ⟨5, _⟩ => ⟨S2048, .f32⟩
  | .hbm, ⟨6, _⟩ => ⟨S32768x2048, .f32⟩
  | .hbm, ⟨7, _⟩ => ⟨S32768x768, .bf16⟩
  | .hbm, ⟨8, _⟩ => ⟨S32768x768, .bf16⟩
  | .hbm, ⟨9, _⟩ => ⟨S32768x512, .bf16⟩
  | .hbm, ⟨10, _⟩ => ⟨S2048x2048, .bf16⟩
  | .hbm, ⟨11, _⟩ => ⟨S1x2048, .f32⟩
  | .hbm, ⟨12, _⟩ => ⟨S32768x2048, .f32⟩
  | .local _ .vmem, ⟨0, _⟩ => ⟨S1024x2048, .f32⟩
  | .local _ .vmem, ⟨1, _⟩ => ⟨S1024x2048, .f32⟩
  | .local _ .vmem, ⟨2, _⟩ => ⟨S1024x768, .bf16⟩
  | .local _ .vmem, ⟨3, _⟩ => ⟨S1024x768, .bf16⟩
  | .local _ .vmem, ⟨4, _⟩ => ⟨S1024x768, .bf16⟩
  | .local _ .vmem, ⟨5, _⟩ => ⟨S1024x768, .bf16⟩
  | .local _ .vmem, ⟨6, _⟩ => ⟨S1024x512, .bf16⟩
  | .local _ .vmem, ⟨7, _⟩ => ⟨S1024x512, .bf16⟩
  | .local _ .vmem, ⟨8, _⟩ => ⟨S2048x2048, .bf16⟩
  | .local _ .vmem, ⟨9, _⟩ => ⟨S1x2048, .f32⟩
  | .local _ .vmem, ⟨10, _⟩ => ⟨S1024x2048, .f32⟩
  | .local _ .vmem, ⟨11, _⟩ => ⟨S1024x2048, .f32⟩
  | _, _ => ⟨S16x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== OutRefIdeal.lean ====
abbrev S16x2048x2048 : Shape := ⟨3, ![16, 2048, 2048]⟩
abbrev S16x2048x768 : Shape := ⟨3, ![16, 2048, 768]⟩
abbrev S16x2048x512 : Shape := ⟨3, ![16, 2048, 512]⟩
abbrev S2048x2048 : Shape := ⟨2, ![2048, 2048]⟩
abbrev S2048 : Shape := ⟨1, ![2048]⟩
abbrev S_ : Shape := ⟨0, ![]⟩
abbrev S16x2048 : Shape := ⟨2, ![16, 2048]⟩
abbrev S16x2048x1 : Shape := ⟨3, ![16, 2048, 1]⟩
abbrev S1x1x2048 : Shape := ⟨3, ![1, 1, 2048]⟩
abbrev S32768x2048 : Shape := ⟨2, ![32768, 2048]⟩

abbrev nBuf : Space → Nat
  | .hbm => 27
  | .vmem => 0
  | .smem => 0
  | _ => 0

abbrev bufTy : (tb : Table) → Fin (tcTables nBuf tb) → BufTy
  | .hbm, ⟨0, _⟩ => ⟨S16x2048x2048, .f32⟩
  | .hbm, ⟨1, _⟩ => ⟨S16x2048x768, .bf16⟩
  | .hbm, ⟨2, _⟩ => ⟨S16x2048x768, .bf16⟩
  | .hbm, ⟨3, _⟩ => ⟨S16x2048x512, .bf16⟩
  | .hbm, ⟨4, _⟩ => ⟨S2048x2048, .f32⟩
  | .hbm, ⟨5, _⟩ => ⟨S2048, .f32⟩
  | .hbm, ⟨6, _⟩ => ⟨S16x2048x2048, .bf16⟩
  | .hbm, ⟨7, _⟩ => ⟨S16x2048x2048, .f32⟩
  | .hbm, ⟨8, _⟩ => ⟨S16x2048x2048, .f32⟩
  | .hbm, ⟨9, _⟩ => ⟨S16x2048x2048, .f32⟩
  | .hbm, ⟨10, _⟩ => ⟨S16x2048x2048, .f32⟩
  | .hbm, ⟨11, _⟩ => ⟨S_, .f32⟩
  | .hbm, ⟨12, _⟩ => ⟨S16x2048, .f32⟩
  | .hbm, ⟨13, _⟩ => ⟨S16x2048x1, .f32⟩
  | .hbm, ⟨14, _⟩ => ⟨S_, .f32⟩
  | .hbm, ⟨15, _⟩ => ⟨S16x2048x1, .f32⟩
  | .hbm, ⟨16, _⟩ => ⟨S16x2048x1, .f32⟩
  | .hbm, ⟨17, _⟩ => ⟨S_, .f32⟩
  | .hbm, ⟨18, _⟩ => ⟨S16x2048x1, .f32⟩
  | .hbm, ⟨19, _⟩ => ⟨S16x2048x1, .f32⟩
  | .hbm, ⟨20, _⟩ => ⟨S16x2048x1, .f32⟩
  | .hbm, ⟨21, _⟩ => ⟨S16x2048x2048, .f32⟩
  | .hbm, ⟨22, _⟩ => ⟨S16x2048x2048, .f32⟩
  | .hbm, ⟨23, _⟩ => ⟨S1x1x2048, .f32⟩
  | .hbm, ⟨24, _⟩ => ⟨S16x2048x2048, .f32⟩
  | .hbm, ⟨25, _⟩ => ⟨S16x2048x2048, .f32⟩
  | .hbm, ⟨26, _⟩ => ⟨S32768x2048, .f32⟩
  | _, _ => ⟨S16x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]
-- ==== InProj.lean ====
abbrev S16x2048x2048 : Shape := ⟨3, ![16, 2048, 2048]⟩
abbrev S2048 : Shape := ⟨1, ![2048]⟩
abbrev S2048x7168 : Shape := ⟨2, ![2048, 7168]⟩
abbrev S64 : Shape := ⟨1, ![64]⟩
abbrev S_ : Shape := ⟨0, ![]⟩
abbrev S2048x1 : Shape := ⟨2, ![2048, 1]⟩
abbrev S1x64 : Shape := ⟨2, ![1, 64]⟩
abbrev S2048x64 : Shape := ⟨2, ![2048, 64]⟩
abbrev S2048x128 : Shape := ⟨2, ![2048, 128]⟩
abbrev S32768x2048 : Shape := ⟨2, ![32768, 2048]⟩
abbrev S1x2048x7168 : Shape := ⟨3, ![1, 2048, 7168]⟩
abbrev S1x2048 : Shape := ⟨2, ![1, 2048]⟩
abbrev S32768x7168 : Shape := ⟨2, ![32768, 7168]⟩
abbrev S16x4x512x2304 : Shape := ⟨4, ![16, 4, 512, 2304]⟩
abbrev S512x2048 : Shape := ⟨2, ![512, 2048]⟩
abbrev S512x128 : Shape := ⟨2, ![512, 128]⟩
abbrev S512x7168 : Shape := ⟨2, ![512, 7168]⟩
abbrev S1x4x128x2304 : Shape := ⟨4, ![1, 4, 128, 2304]⟩
abbrev S6x512x128 : Shape := ⟨3, ![6, 512, 128]⟩
abbrev S512 : Shape := ⟨1, ![512]⟩
abbrev S512x1 : Shape := ⟨2, ![512, 1]⟩
abbrev S1x2048x768 : Shape := ⟨3, ![1, 2048, 768]⟩
abbrev S2048x768 : Shape := ⟨2, ![2048, 768]⟩
abbrev S512x768 : Shape := ⟨2, ![512, 768]⟩
abbrev S1x512x128 : Shape := ⟨3, ![1, 512, 128]⟩
abbrev S1x128x128 : Shape := ⟨3, ![1, 128, 128]⟩
abbrev S128x128 : Shape := ⟨2, ![128, 128]⟩
abbrev S1x1x128x128 : Shape := ⟨4, ![1, 1, 128, 128]⟩
abbrev S1x2048x512 : Shape := ⟨3, ![1, 2048, 512]⟩
abbrev S2048x512 : Shape := ⟨2, ![2048, 512]⟩
abbrev S512x512 : Shape := ⟨2, ![512, 512]⟩

abbrev nBuf : Space → Nat
  | .hbm => 29
  | .vmem => 13
  | .smem => 0
  | _ => 0

abbrev bufTy : (tb : Table) → Fin (tcTables nBuf tb) → BufTy
  | .hbm, ⟨0, _⟩ => ⟨S16x2048x2048, .f32⟩
  | .hbm, ⟨1, _⟩ => ⟨S2048, .f32⟩
  | .hbm, ⟨2, _⟩ => ⟨S2048x7168, .f32⟩
  | .hbm, ⟨3, _⟩ => ⟨S64, .f32⟩
  | .hbm, ⟨4, _⟩ => ⟨S64, .f32⟩
  | .hbm, ⟨5, _⟩ => ⟨S_, .f32⟩
  | .hbm, ⟨6, _⟩ => ⟨S64, .f32⟩
  | .hbm, ⟨7, _⟩ => ⟨S64, .f32⟩
  | .hbm, ⟨8, _⟩ => ⟨S_, .f32⟩
  | .hbm, ⟨9, _⟩ => ⟨S64, .f32⟩
  | .hbm, ⟨10, _⟩ => ⟨S64, .f32⟩
  | .hbm, ⟨11, _⟩ => ⟨S2048, .i32⟩
  | .hbm, ⟨12, _⟩ => ⟨S2048, .f32⟩
  | .hbm, ⟨13, _⟩ => ⟨S2048x1, .f32⟩
  | .hbm, ⟨14, _⟩ => ⟨S1x64, .f32⟩
  | .hbm, ⟨15, _⟩ => ⟨S2048x64, .f32⟩
  | .hbm, ⟨16, _⟩ => ⟨S2048x64, .f32⟩
  | .hbm, ⟨17, _⟩ => ⟨S2048x64, .f32⟩
  | .hbm, ⟨18, _⟩ => ⟨S2048x64, .f32⟩
  | .hbm, ⟨19, _⟩ => ⟨S2048x64, .f32⟩
  | .hbm, ⟨20, _⟩ => ⟨S2048x128, .f32⟩
  | .hbm, ⟨21, _⟩ => ⟨S2048x64, .f32⟩
  | .hbm, ⟨22, _⟩ => ⟨S2048x128, .f32⟩
  | .hbm, ⟨23, _⟩ => ⟨S32768x2048, .f32⟩
  | .hbm, ⟨24, _⟩ => ⟨S2048x7168, .bf16⟩
  | .hbm, ⟨25, _⟩ => ⟨S1x2048x7168, .bf16⟩
  | .hbm, ⟨26, _⟩ => ⟨S1x2048, .f32⟩
  | .hbm, ⟨27, _⟩ => ⟨S32768x7168, .bf16⟩
  | .hbm, ⟨28, _⟩ => ⟨S16x4x512x2304, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048x7168, .bf16⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x7168, .bf16⟩
  | .local _ .vmem, ⟨9, _⟩ => ⟨S512x7168, .bf16⟩
  | .local _ .vmem, ⟨10, _⟩ => ⟨S1x4x128x2304, .bf16⟩
  | .local _ .vmem, ⟨11, _⟩ => ⟨S1x4x128x2304, .bf16⟩
  | .local _ .vmem, ⟨12, _⟩ => ⟨S6x512x128, .f32⟩
  | _, _ => ⟨S16x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22_0 : Ref sig .tc := ⟨.hbm, 27, rfl⟩
abbrev main_v22_1 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048x7168 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x7168 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x4x128x2304 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== InProjIdeal.lean ====
variable {F : FTy → Type} [FloatOps F] [Named F]
def κ : String → Option EReal := fun
  | "unit" => some ((((Real.sqrt 128) * (Real.log 2))⁻¹ : ℝ) : EReal)
  | _ => none
-- ==== InRefIdeal.lean ====
abbrev S16x2048x2048 : Shape := ⟨3, ![16, 2048, 2048]⟩
abbrev S2048 : Shape := ⟨1, ![2048]⟩
abbrev S2048x7168 : Shape := ⟨2, ![2048, 7168]⟩
abbrev S_ : Shape := ⟨0, ![]⟩
abbrev S16x2048 : Shape := ⟨2, ![16, 2048]⟩
abbrev S16x2048x1 : Shape := ⟨3, ![16, 2048, 1]⟩
abbrev S1x1x2048 : Shape := ⟨3, ![1, 1, 2048]⟩
abbrev S16x2048x7168 : Shape := ⟨3, ![16, 2048, 7168]⟩
abbrev S16x2048x768 : Shape := ⟨3, ![16, 2048, 768]⟩
abbrev S16x2048x512 : Shape := ⟨3, ![16, 2048, 512]⟩
abbrev S64 : Shape := ⟨1, ![64]⟩
abbrev S2048x1 : Shape := ⟨2, ![2048, 1]⟩
abbrev S1x64 : Shape := ⟨2, ![1, 64]⟩
abbrev S2048x64 : Shape := ⟨2, ![2048, 64]⟩
abbrev S1x2048x1x64 : Shape := ⟨4, ![1, 2048, 1, 64]⟩
abbrev S16x2048x6x128 : Shape := ⟨4, ![16, 2048, 6, 128]⟩
abbrev S16x2048x6x64 : Shape := ⟨4, ![16, 2048, 6, 64]⟩
abbrev S16x2048x2304 : Shape := ⟨3, ![16, 2048, 2304]⟩
abbrev S16x512x4x2304 : Shape := ⟨4, ![16, 512, 4, 2304]⟩
abbrev S32768x7168 : Shape := ⟨2, ![32768, 7168]⟩
abbrev S16x4x512x2304 : Shape := ⟨4, ![16, 4, 512, 2304]⟩

abbrev nBuf : Space → Nat
  | .hbm => 124
  | .vmem => 0
  | .smem => 0
  | _ => 0

abbrev bufTy : (tb : Table) → Fin (tcTables nBuf tb) → BufTy
  | .hbm, ⟨0, _⟩ => ⟨S16x2048x2048, .f32⟩
  | .hbm, ⟨1, _⟩ => ⟨S2048, .f32⟩
  | .hbm, ⟨2, _⟩ => ⟨S2048x7168, .f32⟩
  | .hbm, ⟨3, _⟩ => ⟨S16x2048x2048, .f32⟩
  | .hbm, ⟨4, _⟩ => ⟨S_, .f32⟩
  | .hbm, ⟨5, _⟩ => ⟨S16x2048, .f32⟩
  | .hbm, ⟨6, _⟩ => ⟨S16x2048x1, .f32⟩
  | .hbm, ⟨7, _⟩ => ⟨S_, .f32⟩
  | .hbm, ⟨8, _⟩ => ⟨S16x2048x1, .f32⟩
  | .hbm, ⟨9, _⟩ => ⟨S16x2048x1, .f32⟩
  | .hbm, ⟨10, _⟩ => ⟨S_, .f32⟩
  | .hbm, ⟨11, _⟩ => ⟨S16x2048x1, .f32⟩
  | .hbm, ⟨12, _⟩ => ⟨S16x2048x1, .f32⟩
  | .hbm, ⟨13, _⟩ => ⟨S16x2048x1, .f32⟩
  | .hbm, ⟨14, _⟩ => ⟨S16x2048x2048, .f32⟩
  | .hbm, ⟨15, _⟩ => ⟨S16x2048x2048, .f32⟩
  | .hbm, ⟨16, _⟩ => ⟨S1x1x2048, .f32⟩
  | .hbm, ⟨17, _⟩ => ⟨S16x2048x2048, .f32⟩
  | .hbm, ⟨18, _⟩ => ⟨S16x2048x2048, .f32⟩
  | .hbm, ⟨19, _⟩ => ⟨S16x2048x7168, .f32⟩
  | .hbm, ⟨20, _⟩ => ⟨S16x2048x768, .f32⟩
  | .hbm, ⟨21, _⟩ => ⟨S16x2048x768, .f32⟩
  | .hbm, ⟨22, _⟩ => ⟨S16x2048x768, .f32⟩
  | .hbm, ⟨23, _⟩ => ⟨S16x2048x768, .f32⟩
  | .hbm, ⟨24, _⟩ => ⟨S16x2048x768, .f32⟩
  | .hbm, ⟨25, _⟩ => ⟨S16x2048x768, .f32⟩
  | .hbm, ⟨26, _⟩ => ⟨S16x2048x768, .f32⟩
  | .hbm, ⟨27, _⟩ => ⟨S16x2048x768, .f32⟩
  | .hbm, ⟨28, _⟩ => ⟨S16x2048x512, .f32⟩
  | .hbm, ⟨29, _⟩ => ⟨S16x2048x512, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S64, .f32⟩
  | .hbm, ⟨36, _⟩ => ⟨S64, .f32⟩
  | .hbm, ⟨37, _⟩ => ⟨S_, .f32⟩
  | .hbm, ⟨38, _⟩ => ⟨S64, .f32⟩
  | .hbm, ⟨39, _⟩ => ⟨S64, .f32⟩
  | .hbm, ⟨40, _⟩ => ⟨S_, .f32⟩
  | .hbm, ⟨41, _⟩ => ⟨S64, .f32⟩
  | .hbm, ⟨42, _⟩ => ⟨S64, .f32⟩
  | .hbm, ⟨43, _⟩ => ⟨S2048, .i32⟩
  | .hbm, ⟨44, _⟩ => ⟨S2048, .f32⟩
  | .hbm, ⟨45, _⟩ => ⟨S2048x1, .f32⟩
  | .hbm, ⟨46, _⟩ => ⟨S1x64, .f32⟩
  | .hbm, ⟨47, _⟩ => ⟨S2048x64, .f32⟩
  | .hbm, ⟨48, _⟩ => ⟨S2048x64, .f32⟩
  | .hbm, ⟨49, _⟩ => ⟨S2048x64, .f32⟩
  | .hbm, ⟨50, _⟩ => ⟨S2048x64, .f32⟩
  | .hbm, ⟨51, _⟩ => ⟨S1x2048x1x64, .f32⟩
  | .hbm, ⟨52, _⟩ => ⟨S2048x64, .f32⟩
  | .hbm, ⟨53, _⟩ => ⟨S1x2048x1x64, .f32⟩
  | .hbm, ⟨54, _⟩ => ⟨S16x2048x6x128, .f32⟩
  | .hbm, ⟨55, _⟩ => ⟨S16x2048x6x64, .f32⟩
  | .hbm, ⟨56, _⟩ => ⟨S16x2048x6x64, .f32⟩
  | .hbm, ⟨57, _⟩ => ⟨S16x2048x6x64, .f32⟩
  | .hbm, ⟨58, _⟩ => ⟨S16x2048x6x64, .f32⟩
  | .hbm, ⟨59, _⟩ => ⟨S16x2048x6x64, .f32⟩
  | .hbm, ⟨60, _⟩ => ⟨S16x2048x6x64, .f32⟩
  | .hbm, ⟨61, _⟩ => ⟨S16x2048x6x64, .f32⟩
  | .hbm, ⟨62, _⟩ => ⟨S16x2048x6x64, .f32⟩
  | .hbm, ⟨63, _⟩ => ⟨S16x2048x6x64, .f32⟩
  | .hbm, ⟨64, _⟩ => ⟨S16x2048x6x64, .f32⟩
  | .hbm, ⟨65, _⟩ => ⟨S16x2048x6x64, .f32⟩
  | .hbm, ⟨66, _⟩ => ⟨S16x2048x6x64, .f32⟩
  | .hbm, ⟨67, _⟩ => ⟨S16x2048x6x128, .f32⟩
  | .hbm, ⟨68, _⟩ => ⟨S16x2048x768, .f32⟩
  | .hbm, ⟨69, _⟩ => ⟨S16x2048x768, .f32⟩
  | .hbm, ⟨70, _⟩ => ⟨S16x2048x768, .f32⟩
  | .hbm, ⟨71, _⟩ => ⟨S16x2048x6x128, .f32⟩
  | .hbm, ⟨72, _⟩ => ⟨S16x2048x6x64, .f32⟩
  | .hbm, ⟨73, _⟩ => ⟨S16x2048x6x64, .f32⟩
  | .hbm, ⟨74, _⟩ => ⟨S16x2048x6x64, .f32⟩
  | .hbm, ⟨75, _⟩ => ⟨S16x2048x6x64, .f32⟩
  | .hbm, ⟨76, _⟩ => ⟨S16x2048x6x64, .f32⟩
  | .hbm, ⟨77, _⟩ => ⟨S16x2048x6x64, .f32⟩
  | .hbm, ⟨78, _⟩ => ⟨S16x2048x6x64, .f32⟩
  | .hbm, ⟨79, _⟩ => ⟨S16x2048x6x64, .f32⟩
  | .hbm, ⟨80, _⟩ => ⟨S16x2048x6x64, .f32⟩
  | .hbm, ⟨81, _⟩ => ⟨S16x2048x6x64, .f32⟩
  | .hbm, ⟨82, _⟩ => ⟨S16x2048x6x64, .f32⟩
  | .hbm, ⟨83, _⟩ => ⟨S16x2048x6x64, .f32⟩
  | .hbm, ⟨84, _⟩ => ⟨S16x2048x6x128, .f32⟩
  | .hbm, ⟨85, _⟩ => ⟨S16x2048x768, .f32⟩
  | .hbm, ⟨86, _⟩ => ⟨S16x2048x768, .f32⟩
  | .hbm, ⟨87, _⟩ => ⟨S16x2048x768, .f32⟩
  | .hbm, ⟨88, _⟩ => ⟨S16x2048x768, .f32⟩
  | .hbm, ⟨89, _⟩ => ⟨S16x2048x768, .f32⟩
  | .hbm, ⟨90, _⟩ => ⟨S_, .f32⟩
  | .hbm, ⟨91, _⟩ => ⟨S16x2048x768, .f32⟩
  | .hbm, ⟨92, _⟩ => ⟨S16x2048x768, .f32⟩
  | .hbm, ⟨93, _⟩ => ⟨S_, .f32⟩
  | .hbm, ⟨94, _⟩ => ⟨S16x2048x768, .f32⟩
  | .hbm, ⟨95, _⟩ => ⟨S16x2048x768, .f32⟩
  | .hbm, ⟨96, _⟩ => ⟨S16x2048x768, .f32⟩
  | .hbm, ⟨97, _⟩ => ⟨S16x2048x768, .f32⟩
  | .hbm, ⟨98, _⟩ => ⟨S16x2048x768, .f32⟩
  | .hbm, ⟨99, _⟩ => ⟨S_, .f32⟩
  | .hbm, ⟨100, _⟩ => ⟨S16x2048x768, .f32⟩
  | .hbm, ⟨101, _⟩ => ⟨S16x2048x768, .f32⟩
  | .hbm, ⟨102, _⟩ => ⟨S_, .f32⟩
  | .hbm, ⟨103, _⟩ => ⟨S16x2048x768, .f32⟩
  | .hbm, ⟨104, _⟩ => ⟨S16x2048x768, .f32⟩
  | .hbm, ⟨105, _⟩ => ⟨S16x2048x768, .f32⟩
  | .hbm, ⟨106, _⟩ => ⟨S16x2048x512, .f32⟩
  | .hbm, ⟨107, _⟩ => ⟨S16x2048x512, .f32⟩
  | .hbm, ⟨108, _⟩ => ⟨S16x2048x512, .f32⟩
  | .hbm, ⟨109, _⟩ => ⟨S16x2048x512, .f32⟩
  | .hbm, ⟨110, _⟩ => ⟨S_, .f32⟩
  | .hbm, ⟨111, _⟩ => ⟨S16x2048x512, .f32⟩
  | .hbm, ⟨112, _⟩ => ⟨S16x2048x512, .f32⟩
  | .hbm, ⟨113, _⟩ => ⟨S_, .f32⟩
  | .hbm, ⟨114, _⟩ => ⟨S16x2048x512, .f32⟩
  | .hbm, ⟨115, _⟩ => ⟨S16x2048x512, .f32⟩
  | .hbm, ⟨116, _⟩ => ⟨S16x2048x512, .f32⟩
  | .hbm, ⟨117, _⟩ => ⟨S16x2048x7168, .f32⟩
  | .hbm, ⟨118, _⟩ => ⟨S16x2048x2304, .f32⟩
  | .hbm, ⟨119, _⟩ => ⟨S16x512x4x2304, .f32⟩
  | .hbm, ⟨120, _⟩ => ⟨S32768x7168, .f32⟩
  | .hbm, ⟨121, _⟩ => ⟨S32768x7168, .bf16⟩
  | .hbm, ⟨122, _⟩ => ⟨S16x4x512x2304, .f32⟩
  | .hbm, ⟨123, _⟩ => ⟨S16x4x512x2304, .bf16⟩
  | _, _ => ⟨S16x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_2 : Ref sig .tc := ⟨.hbm, 30, rfl⟩
abbrev main_v24 : Ref sig .tc := ⟨.hbm, 31, rfl⟩
abbrev main_cst_3 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_4 : Ref sig .tc := ⟨.hbm, 37, rfl⟩
abbrev main_v29 : Ref sig .tc := ⟨.hbm, 38, rfl⟩
abbrev main_v30 : Ref sig .tc := ⟨.hbm, 39, rfl⟩
abbrev main_cst_5 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_call0_v0 : Ref sig .tc := ⟨.hbm, 88, rfl⟩
abbrev main_call0_v1 : Ref sig .tc := ⟨.hbm, 89, rfl⟩
abbrev main_call0_cst : Ref sig .tc := ⟨.hbm, 90, rfl⟩
abbrev main_call0_v2 : Ref sig .tc := ⟨.hbm, 91, rfl⟩
abbrev main_call0_v3 : Ref sig .tc := ⟨.hbm, 92, rfl⟩
abbrev main_call0_cst_0 : Ref sig .tc := ⟨.hbm, 93, rfl⟩
abbrev main_call0_v4 : Ref sig .tc := ⟨.hbm, 94, rfl⟩
abbrev main_call0_v5 : Ref sig .tc := ⟨.hbm, 95, rfl⟩
abbrev main_v78 : Ref sig .tc := ⟨.hbm, 96, rfl⟩
abbrev main_call1_v0 : Ref sig .tc := ⟨.hbm, 97, rfl⟩
abbrev main_call1_v1 : Ref sig .tc := ⟨.hbm, 98, rfl⟩
abbrev main_call1_cst : Ref sig .tc := ⟨.hbm, 99, rfl⟩
abbrev main_call1_v2 : Ref sig .tc := ⟨.hbm, 100, rfl⟩
abbrev main_call1_v3 : Ref sig .tc := ⟨.hbm, 101, rfl⟩
abbrev main_call1_cst_0 : Ref sig .tc := ⟨.hbm, 102, rfl⟩
abbrev main_call1_v4 : Ref sig .tc := ⟨.hbm, 103, rfl⟩
abbrev main_call1_v5 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_call2_v0 : Ref sig .tc := ⟨.hbm, 108, rfl⟩
abbrev main_call2_v1 : Ref sig .tc := ⟨.hbm, 109, rfl⟩
abbrev main_call2_cst : Ref sig .tc := ⟨.hbm, 110, rfl⟩
abbrev main_call2_v2 : Ref sig .tc := ⟨.hbm, 111, rfl⟩
abbrev main_call2_v3 : Ref sig .tc := ⟨.hbm, 112, rfl⟩
abbrev main_call2_cst_0 : Ref sig .tc := ⟨.hbm, 113, rfl⟩
abbrev main_call2_v4 : Ref sig .tc := ⟨.hbm, 114, rfl⟩
abbrev main_call2_v5 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩

abbrev nD : Nat := 1
abbrev τ : Topo := Topo.v7x

variable {F : FTy → Type} [FloatOps F]
-- ==== MidProj.lean ====
abbrev S16x2048x2048 : Shape := ⟨3, ![16, 2048, 2048]⟩
abbrev S16x2048x768 : Shape := ⟨3, ![16, 2048, 768]⟩
abbrev S16x2048x512 : Shape := ⟨3, ![16, 2048, 512]⟩
abbrev S2048x2048 : Shape := ⟨2, ![2048, 2048]⟩
abbrev S2048 : Shape := ⟨1, ![2048]⟩
abbrev S4x2048x7168 : Shape := ⟨3, ![4, 2048, 7168]⟩
abbrev S32768x2048 : Shape := ⟨2, ![32768, 2048]⟩
abbrev S32768x768 : Shape := ⟨2, ![32768, 768]⟩
abbrev S32768x512 : Shape := ⟨2, ![32768, 512]⟩
abbrev S1x2048 : Shape := ⟨2, ![1, 2048]⟩
abbrev S1x2048x7168 : Shape := ⟨3, ![1, 2048, 7168]⟩
abbrev S1024x2048 : Shape := ⟨2, ![1024, 2048]⟩
abbrev S1024x768 : Shape := ⟨2, ![1024, 768]⟩
abbrev S1024x512 : Shape := ⟨2, ![1024, 512]⟩
abbrev S1x64x7168 : Shape := ⟨3, ![1, 64, 7168]⟩
abbrev S64x7168 : Shape := ⟨2, ![64, 7168]⟩
abbrev S768x2048 : Shape := ⟨2, ![768, 2048]⟩
abbrev S512x2048 : Shape := ⟨2, ![512, 2048]⟩

abbrev nBuf : Space → Nat
  | .hbm => 15
  | .vmem => 16
  | .smem => 0
  | _ => 0

abbrev bufTy : (tb : Table) → Fin (tcTables nBuf tb) → BufTy
  | .hbm, ⟨0, _⟩ => ⟨S16x2048x2048, .f32⟩
  | .hbm, ⟨1, _⟩ => ⟨S16x2048x768, .bf16⟩
  | .hbm, ⟨2, _⟩ => ⟨S16x2048x768, .bf16⟩
  | .hbm, ⟨3, _⟩ => ⟨S16x2048x512, .bf16⟩
  | .hbm, ⟨4, _⟩ => ⟨S2048x2048, .f32⟩
  | .hbm, ⟨5, _⟩ => ⟨S2048, .f32⟩
  | .hbm, ⟨6, _⟩ => ⟨S4x2048x7168, .f32⟩
  | .hbm, ⟨7, _⟩ => ⟨S32768x2048, .f32⟩
  | .hbm, ⟨8, _⟩ => ⟨S32768x768, .bf16⟩
  | .hbm, ⟨9, _⟩ => ⟨S32768x768, .bf16⟩
  | .hbm, ⟨10, _⟩ => ⟨S32768x512, .bf16⟩
  | .hbm, ⟨11, _⟩ => ⟨S2048x2048, .bf16⟩
  | .hbm, ⟨12, _⟩ => ⟨S1x2048, .f32⟩
  | .hbm, ⟨13, _⟩ => ⟨S32768x2048, .f32⟩
  | .hbm, ⟨14, _⟩ => ⟨S1x2048x7168, .bf16⟩
  | .local _ .vmem, ⟨0, _⟩ => ⟨S1024x2048, .f32⟩
  | .local _ .vmem, ⟨1, _⟩ => ⟨S1024x2048, .f32⟩
  | .local _ .vmem, ⟨2, _⟩ => ⟨S1024x768, .bf16⟩
  | .local _ .vmem, ⟨3, _⟩ => ⟨S1024x768, .bf16⟩
  | .local _ .vmem, ⟨4, _⟩ => ⟨S1024x768, .bf16⟩
  | .local _ .vmem, ⟨5, _⟩ => ⟨S1024x768, .bf16⟩
  | .local _ .vmem, ⟨6, _⟩ => ⟨S1024x512, .bf16⟩
  | .local _ .vmem, ⟨7, _⟩ => ⟨S1024x512, .bf16⟩
  | .local _ .vmem, ⟨8, _⟩ => ⟨S2048x2048, .bf16⟩
  | .local _ .vmem, ⟨9, _⟩ => ⟨S1x2048, .f32⟩
  | .local _ .vmem, ⟨10, _⟩ => ⟨S1x64x7168, .f32⟩
  | .local _ .vmem, ⟨11, _⟩ => ⟨S1x64x7168, .f32⟩
  | .local _ .vmem, ⟨12, _⟩ => ⟨S1024x2048, .f32⟩
  | .local _ .vmem, ⟨13, _⟩ => ⟨S1024x2048, .f32⟩
  | .local _ .vmem, ⟨14, _⟩ => ⟨S1x64x7168, .bf16⟩
  | .local _ .vmem, ⟨15, _⟩ => ⟨S1x64x7168, .bf16⟩
  | _, _ => ⟨S16x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x64x7168 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x64x7168 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MidRefIdeal.lean ====
abbrev S16x2048x2048 : Shape := ⟨3, ![16, 2048, 2048]⟩
abbrev S16x2048x768 : Shape := ⟨3, ![16, 2048, 768]⟩
abbrev S16x2048x512 : Shape := ⟨3, ![16, 2048, 512]⟩
abbrev S2048x2048 : Shape := ⟨2, ![2048, 2048]⟩
abbrev S2048 : Shape := ⟨1, ![2048]⟩
abbrev S4x2048x7168 : Shape := ⟨3, ![4, 2048, 7168]⟩
abbrev S32768x2048 : Shape := ⟨2, ![32768, 2048]⟩
abbrev S1x2048x7168 : Shape := ⟨3, ![1, 2048, 7168]⟩

abbrev nBuf : Space → Nat
  | .hbm => 14
  | .vmem => 0
  | .smem => 0
  | _ => 0

abbrev bufTy : (tb : Table) → Fin (tcTables nBuf tb) → BufTy
  | .hbm, ⟨0, _⟩ => ⟨S16x2048x2048, .f32⟩
  | .hbm, ⟨1, _⟩ => ⟨S16x2048x768, .bf16⟩
  | .hbm, ⟨2, _⟩ => ⟨S16x2048x768, .bf16⟩
  | .hbm, ⟨3, _⟩ => ⟨S16x2048x512, .bf16⟩
  | .hbm, ⟨4, _⟩ => ⟨S2048x2048, .f32⟩
  | .hbm, ⟨5, _⟩ => ⟨S2048, .f32⟩
  | .hbm, ⟨6, _⟩ => ⟨S4x2048x7168, .f32⟩
  | .hbm, ⟨7, _⟩ => ⟨S16x2048x2048, .bf16⟩
  | .hbm, ⟨8, _⟩ => ⟨S16x2048x2048, .f32⟩
  | .hbm, ⟨9, _⟩ => ⟨S16x2048x2048, .f32⟩
  | .hbm, ⟨10, _⟩ => ⟨S16x2048x2048, .f32⟩
  | .hbm, ⟨11, _⟩ => ⟨S32768x2048, .f32⟩
  | .hbm, ⟨12, _⟩ => ⟨S1x2048x7168, .f32⟩
  | .hbm, ⟨13, _⟩ => ⟨S1x2048x7168, .bf16⟩
  | _, _ => ⟨S16x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩

abbrev nD : Nat := 1
abbrev τ : Topo := Topo.v7x

variable {F : FTy → Type} [FloatOps F]
-- ==== Tokens.lean ====
abbrev S16x256x2048 : Shape := ⟨3, ![16, 256, 2048]⟩
abbrev S2048 : Shape := ⟨1, ![2048]⟩
abbrev S4x2048x1024 : Shape := ⟨3, ![4, 2048, 1024]⟩
abbrev S4x2048x2048 : Shape := ⟨3, ![4, 2048, 2048]⟩
abbrev S4x2048x7168 : Shape := ⟨3, ![4, 2048, 7168]⟩
abbrev S4096x2048 : Shape := ⟨2, ![4096, 2048]⟩
abbrev S1x2048 : Shape := ⟨2, ![1, 2048]⟩
abbrev S4096x1024 : Shape := ⟨2, ![4096, 1024]⟩
abbrev S2048x2048 : Shape := ⟨2, ![2048, 2048]⟩
abbrev S2048x7168 : Shape := ⟨2, ![2048, 7168]⟩
abbrev S512x2048 : Shape := ⟨2, ![512, 2048]⟩
abbrev S1x2048x1024 : Shape := ⟨3, ![1, 2048, 1024]⟩
abbrev S1x256x2048 : Shape := ⟨3, ![1, 256, 2048]⟩
abbrev S1x256x7168 : Shape := ⟨3, ![1, 256, 7168]⟩
abbrev S512x1024 : Shape := ⟨2, ![512, 1024]⟩
abbrev S256x2048 : Shape := ⟨2, ![256, 2048]⟩
abbrev S256x7168 : Shape := ⟨2, ![256, 7168]⟩
abbrev S512 : Shape := ⟨1, ![512]⟩
abbrev S512x1 : Shape := ⟨2, ![512, 1]⟩
abbrev S2048x1024 : Shape := ⟨2, ![2048, 1024]⟩

abbrev nBuf : Space → Nat
  | .hbm => 11
  | .vmem => 14
  | .smem => 0
  | _ => 0

abbrev bufTy : (tb : Table) → Fin (tcTables nBuf tb) → BufTy
  | .hbm, ⟨0, _⟩ => ⟨S16x256x2048, .f32⟩
  | .hbm, ⟨1, _⟩ => ⟨S2048, .f32⟩
  | .hbm, ⟨2, _⟩ => ⟨S4x2048x1024, .f32⟩
  | .hbm, ⟨3, _⟩ => ⟨S4x2048x2048, .f32⟩
  | .hbm, ⟨4, _⟩ => ⟨S4x2048x7168, .f32⟩
  | .hbm, ⟨5, _⟩ => ⟨S4096x2048, .f32⟩
  | .hbm, ⟨6, _⟩ => ⟨S4x2048x1024, .bf16⟩
  | .hbm, ⟨7, _⟩ => ⟨S1x2048, .f32⟩
  | .hbm, ⟨8, _⟩ => ⟨S4096x1024, .bf16⟩
  | .hbm, ⟨9, _⟩ => ⟨S2048x2048, .bf16⟩
  | .hbm, ⟨10, _⟩ => ⟨S2048x7168, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048x1024, .bf16⟩
  | .local _ .vmem, ⟨4, _⟩ => ⟨S1x256x2048, .f32⟩
  | .local _ .vmem, ⟨5, _⟩ => ⟨S1x256x2048, .f32⟩
  | .local _ .vmem, ⟨6, _⟩ => ⟨S1x256x7168, .f32⟩
  | .local _ .vmem, ⟨7, _⟩ => ⟨S1x256x7168, .f32⟩
  | .local _ .vmem, ⟨8, _⟩ => ⟨S512x1024, .bf16⟩
  | .local _ .vmem, ⟨9, _⟩ => ⟨S512x1024, .bf16⟩
  | .local _ .vmem, ⟨10, _⟩ => ⟨S256x2048, .bf16⟩
  | .local _ .vmem, ⟨11, _⟩ => ⟨S256x2048, .bf16⟩
  | .local _ .vmem, ⟨12, _⟩ => ⟨S256x7168, .bf16⟩
  | .local _ .vmem, ⟨13, _⟩ => ⟨S256x7168, .bf16⟩
  | _, _ => ⟨S16x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x7168 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x7168 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== TokensRefIdeal.lean ====
abbrev S16x256x2048 : Shape := ⟨3, ![16, 256, 2048]⟩
abbrev S2048 : Shape := ⟨1, ![2048]⟩
abbrev S4x2048x1024 : Shape := ⟨3, ![4, 2048, 1024]⟩
abbrev S4x2048x2048 : Shape := ⟨3, ![4, 2048, 2048]⟩
abbrev S4x2048x7168 : Shape := ⟨3, ![4, 2048, 7168]⟩
abbrev S_ : Shape := ⟨0, ![]⟩
abbrev S16x256 : Shape := ⟨2, ![16, 256]⟩
abbrev S16x256x1 : Shape := ⟨3, ![16, 256, 1]⟩
abbrev S1x1x2048 : Shape := ⟨3, ![1, 1, 2048]⟩
abbrev S1x2048x1024 : Shape := ⟨3, ![1, 2048, 1024]⟩
abbrev S2048x1024 : Shape := ⟨2, ![2048, 1024]⟩
abbrev S16x256x1024 : Shape := ⟨3, ![16, 256, 1024]⟩
abbrev S4096x1024 : Shape := ⟨2, ![4096, 1024]⟩
abbrev S1x2048x2048 : Shape := ⟨3, ![1, 2048, 2048]⟩
abbrev S2048x2048 : Shape := ⟨2, ![2048, 2048]⟩
abbrev S1x2048x7168 : Shape := ⟨3, ![1, 2048, 7168]⟩
abbrev S2048x7168 : Shape := ⟨2, ![2048, 7168]⟩

abbrev nBuf : Space → Nat
  | .hbm => 32
  | .vmem => 0
  | .smem => 0
  | _ => 0

abbrev bufTy : (tb : Table) → Fin (tcTables nBuf tb) → BufTy
  | .hbm, ⟨0, _⟩ => ⟨S16x256x2048, .f32⟩
  | .hbm, ⟨1, _⟩ => ⟨S2048, .f32⟩
  | .hbm, ⟨2, _⟩ => ⟨S4x2048x1024, .f32⟩
  | .hbm, ⟨3, _⟩ => ⟨S4x2048x2048, .f32⟩
  | .hbm, ⟨4, _⟩ => ⟨S4x2048x7168, .f32⟩
  | .hbm, ⟨5, _⟩ => ⟨S16x256x2048, .f32⟩
  | .hbm, ⟨6, _⟩ => ⟨S_, .f32⟩
  | .hbm, ⟨7, _⟩ => ⟨S16x256, .f32⟩
  | .hbm, ⟨8, _⟩ => ⟨S16x256x1, .f32⟩
  | .hbm, ⟨9, _⟩ => ⟨S_, .f32⟩
  | .hbm, ⟨10, _⟩ => ⟨S16x256x1, .f32⟩
  | .hbm, ⟨11, _⟩ => ⟨S16x256x1, .f32⟩
  | .hbm, ⟨12, _⟩ => ⟨S_, .f32⟩
  | .hbm, ⟨13, _⟩ => ⟨S16x256x1, .f32⟩
  | .hbm, ⟨14, _⟩ => ⟨S16x256x1, .f32⟩
  | .hbm, ⟨15, _⟩ => ⟨S16x256x1, .f32⟩
  | .hbm, ⟨16, _⟩ => ⟨S16x256x2048, .f32⟩
  | .hbm, ⟨17, _⟩ => ⟨S16x256x2048, .f32⟩
  | .hbm, ⟨18, _⟩ => ⟨S1x1x2048, .f32⟩
  | .hbm, ⟨19, _⟩ => ⟨S16x256x2048, .f32⟩
  | .hbm, ⟨20, _⟩ => ⟨S16x256x2048, .f32⟩
  | .hbm, ⟨21, _⟩ => ⟨S1x2048x1024, .f32⟩
  | .hbm, ⟨22, _⟩ => ⟨S2048x1024, .f32⟩
  | .hbm, ⟨23, _⟩ => ⟨S16x256x1024, .f32⟩
  | .hbm, ⟨24, _⟩ => ⟨S4096x1024, .f32⟩
  | .hbm, ⟨25, _⟩ => ⟨S4096x1024, .bf16⟩
  | .hbm, ⟨26, _⟩ => ⟨S1x2048x2048, .f32⟩
  | .hbm, ⟨27, _⟩ => ⟨S2048x2048, .f32⟩
  | .hbm, ⟨28, _⟩ => ⟨S2048x2048, .bf16⟩
  | .hbm, ⟨29, _⟩ => ⟨S1x2048x7168, .f32⟩
  | .hbm, ⟨30, _⟩ => ⟨S2048x7168, .f32⟩
  | .hbm, ⟨31, _⟩ => ⟨S2048x7168, .bf16⟩
  | _, _ => ⟨S16x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]
-- ==== Dilated.lean ====
abbrev S32768x7168 : Shape := ⟨2, ![32768, 7168]⟩
abbrev S4096x1024 : Shape := ⟨2, ![4096, 1024]⟩
abbrev S32768x2304 : Shape := ⟨2, ![32768, 2304]⟩
abbrev S16x512x4x2304 : Shape := ⟨4, ![16, 512, 4, 2304]⟩
abbrev S16x4x512x2304 : Shape := ⟨4, ![16, 4, 512, 2304]⟩
abbrev S128 : Shape := ⟨1, ![128]⟩
abbrev S1x128x1 : Shape := ⟨3, ![1, 128, 1]⟩
abbrev S256 : Shape := ⟨1, ![256]⟩
abbrev S1x1x256 : Shape := ⟨3, ![1, 1, 256]⟩
abbrev S3 : Shape := ⟨1, ![3]⟩
abbrev S3x1x1 : Shape := ⟨3, ![3, 1, 1]⟩
abbrev S_ : Shape := ⟨0, ![]⟩
abbrev S3x1x256 : Shape := ⟨3, ![3, 1, 256]⟩
abbrev S3x128x256 : Shape := ⟨3, ![3, 128, 256]⟩
abbrev S512 : Shape := ⟨1, ![512]⟩
abbrev S1x512 : Shape := ⟨2, ![1, 512]⟩
abbrev S512x1 : Shape := ⟨2, ![512, 1]⟩
abbrev S512x512 : Shape := ⟨2, ![512, 512]⟩
abbrev S32768x768 : Shape := ⟨2, ![32768, 768]⟩
abbrev S32768x512 : Shape := ⟨2, ![32768, 512]⟩
abbrev S2048x384 : Shape := ⟨2, ![2048, 384]⟩
abbrev S1x4x512x384 : Shape := ⟨4, ![1, 4, 512, 384]⟩
abbrev S2048x256 : Shape := ⟨2, ![2048, 256]⟩
abbrev S256x256 : Shape := ⟨2, ![256, 256]⟩
abbrev S3x2048x128 : Shape := ⟨3, ![3, 2048, 128]⟩
abbrev S512x128 : Shape := ⟨2, ![512, 128]⟩
abbrev S256x128 : Shape := ⟨2, ![256, 128]⟩
abbrev S512x256 : Shape := ⟨2, ![512, 256]⟩
abbrev S1x1x512x128 : Shape := ⟨4, ![1, 1, 512, 128]⟩
abbrev S1x512x128 : Shape := ⟨3, ![1, 512, 128]⟩
abbrev S128x128 : Shape := ⟨2, ![128, 128]⟩
abbrev S128x256 : Shape := ⟨2, ![128, 256]⟩
abbrev S1x128x256 : Shape := ⟨3, ![1, 128, 256]⟩
abbrev S128x1 : Shape := ⟨2, ![128, 1]⟩
abbrev S1x128x128 : Shape := ⟨3, ![1, 128, 128]⟩

abbrev nBuf : Space → Nat
  | .hbm => 64
  | .vmem => 31
  | .smem => 0
  | _ => 0

abbrev bufTy : (tb : Table) → Fin (tcTables nBuf tb) → BufTy
  | .hbm, ⟨0, _⟩ => ⟨S32768x7168, .bf16⟩
  | .hbm, ⟨1, _⟩ => ⟨S4096x1024, .bf16⟩
  | .hbm, ⟨2, _⟩ => ⟨S32768x2304, .bf16⟩
  | .hbm, ⟨3, _⟩ => ⟨S16x512x4x2304, .bf16⟩
  | .hbm, ⟨4, _⟩ => ⟨S16x4x512x2304, .bf16⟩
  | .hbm, ⟨5, _⟩ => ⟨S128, .i32⟩
  | .hbm, ⟨6, _⟩ => ⟨S1x128x1, .i32⟩
  | .hbm, ⟨7, _⟩ => ⟨S256, .i32⟩
  | .hbm, ⟨8, _⟩ => ⟨S1x1x256, .i32⟩
  | .hbm, ⟨9, _⟩ => ⟨S3, .i32⟩
  | .hbm, ⟨10, _⟩ => ⟨S3x1x1, .i32⟩
  | .hbm, ⟨11, _⟩ => ⟨S_, .i32⟩
  | .hbm, ⟨12, _⟩ => ⟨S3x1x1, .i32⟩
  | .hbm, ⟨13, _⟩ => ⟨S3x1x1, .i32⟩
  | .hbm, ⟨14, _⟩ => ⟨S3x1x256, .i32⟩
  | .hbm, ⟨15, _⟩ => ⟨S3x1x256, .i32⟩
  | .hbm, ⟨16, _⟩ => ⟨S3x1x256, .i32⟩
  | .hbm, ⟨17, _⟩ => ⟨S3x128x256, .i32⟩
  | .hbm, ⟨18, _⟩ => ⟨S3x128x256, .i32⟩
  | .hbm, ⟨19, _⟩ => ⟨S3x128x256, .i32⟩
  | .hbm, ⟨20, _⟩ => ⟨S3x128x256, .i32⟩
  | .hbm, ⟨21, _⟩ => ⟨S_, .i32⟩
  | .hbm, ⟨22, _⟩ => ⟨S3x128x256, .i32⟩
  | .hbm, ⟨23, _⟩ => ⟨S3x128x256, .i1⟩
  | .hbm, ⟨24, _⟩ => ⟨S_, .f32⟩
  | .hbm, ⟨25, _⟩ => ⟨S_, .f32⟩
  | .hbm, ⟨26, _⟩ => ⟨S3x128x256, .f32⟩
  | .hbm, ⟨27, _⟩ => ⟨S3x128x256, .f32⟩
  | .hbm, ⟨28, _⟩ => ⟨S3x128x256, .f32⟩
  | .hbm, ⟨29, _⟩ => ⟨S512, .i32⟩
  | .hbm, ⟨30, _⟩ => ⟨S1x512, .i32⟩
  | .hbm, ⟨31, _⟩ => ⟨S512, .i32⟩
  | .hbm, ⟨32, _⟩ => ⟨S512x1, .i32⟩
  | .hbm, ⟨33, _⟩ => ⟨S512x512, .i32⟩
  | .hbm, ⟨34, _⟩ => ⟨S512x512, .i32⟩
  | .hbm, ⟨35, _⟩ => ⟨S512x512, .i32⟩
  | .hbm, ⟨36, _⟩ => ⟨S512x512, .i32⟩
  | .hbm, ⟨37, _⟩ => ⟨S_, .i32⟩
  | .hbm, ⟨38, _⟩ => ⟨S512x512, .i32⟩
  | .hbm, ⟨39, _⟩ => ⟨S512x512, .i1⟩
  | .hbm, ⟨40, _⟩ => ⟨S_, .i32⟩
  | .hbm, ⟨41, _⟩ => ⟨S512x512, .i32⟩
  | .hbm, ⟨42, _⟩ => ⟨S512x512, .i32⟩
  | .hbm, ⟨43, _⟩ => ⟨S_, .i32⟩
  | .hbm, ⟨44, _⟩ => ⟨S512x512, .i32⟩
  | .hbm, ⟨45, _⟩ => ⟨S512x512, .i1⟩
  | .hbm, ⟨46, _⟩ => ⟨S_, .i32⟩
  | .hbm, ⟨47, _⟩ => ⟨S512x512, .i32⟩
  | .hbm, ⟨48, _⟩ => ⟨S512x512, .i1⟩
  | .hbm, ⟨49, _⟩ => ⟨S512x512, .i1⟩
  | .hbm, ⟨50, _⟩ => ⟨S512x512, .i1⟩
  | .hbm, ⟨51, _⟩ => ⟨S512x512, .i1⟩
  | .hbm, ⟨52, _⟩ => ⟨S_, .f32⟩
  | .hbm, ⟨53, _⟩ => ⟨S_, .f32⟩
  | .hbm, ⟨54, _⟩ => ⟨S512x512, .f32⟩
  | .hbm, ⟨55, _⟩ => ⟨S512x512, .f32⟩
  | .hbm, ⟨56, _⟩ => ⟨S512x512, .f32⟩
  | .hbm, ⟨57, _⟩ => ⟨S_, .f32⟩
  | .hbm, ⟨58, _⟩ => ⟨S512x512, .f32⟩
  | .hbm, ⟨59, _⟩ => ⟨S512x512, .f32⟩
  | .hbm, ⟨60, _⟩ => ⟨S3x128x256, .f32⟩
  | .hbm, ⟨61, _⟩ => ⟨S512x512, .f32⟩
  | .hbm, ⟨62, _⟩ => ⟨S32768x768, .bf16⟩
  | .hbm, ⟨63, _⟩ => ⟨S32768x512, .bf16⟩
  | .local _ .vmem, ⟨0, _⟩ => ⟨S2048x384, .bf16⟩
  | .local _ .vmem, ⟨1, _⟩ => ⟨S2048x384, .bf16⟩
  | .local _ .vmem, ⟨2, _⟩ => ⟨S2048x384, .bf16⟩
  | .local _ .vmem, ⟨3, _⟩ => ⟨S2048x384, .bf16⟩
  | .local _ .vmem, ⟨4, _⟩ => ⟨S2048x384, .bf16⟩
  | .local _ .vmem, ⟨5, _⟩ => ⟨S2048x384, .bf16⟩
  | .local _ .vmem, ⟨6, _⟩ => ⟨S2048x384, .bf16⟩
  | .local _ .vmem, ⟨7, _⟩ => ⟨S2048x384, .bf16⟩
  | .local _ .vmem, ⟨8, _⟩ => ⟨S1x4x512x384, .bf16⟩
  | .local _ .vmem, ⟨9, _⟩ => ⟨S1x4x512x384, .bf16⟩
  | .local _ .vmem, ⟨10, _⟩ => ⟨S1x4x512x384, .bf16⟩
  | .local _ .vmem, ⟨11, _⟩ => ⟨S1x4x512x384, .bf16⟩
  | .local _ .vmem, ⟨12, _⟩ => ⟨S1x4x512x384, .bf16⟩
  | .local _ .vmem, ⟨13, _⟩ => ⟨S1x4x512x384, .bf16⟩
  | .local _ .vmem, ⟨14, _⟩ => ⟨S3x128x256, .f32⟩
  | .local _ .vmem, ⟨15, _⟩ => ⟨S512x512, .f32⟩
  | .local _ .vmem, ⟨16, _⟩ => ⟨S2048x256, .bf16⟩
  | .local _ .vmem, ⟨17, _⟩ => ⟨S2048x256, .bf16⟩
  | .local _ .vmem, ⟨18, _⟩ => ⟨S256x256, .bf16⟩
  | .local _ .vmem, ⟨19, _⟩ => ⟨S256x256, .bf16⟩
  | .local _ .vmem, ⟨20, _⟩ => ⟨S256x256, .bf16⟩
  | .local _ .vmem, ⟨21, _⟩ => ⟨S256x256, .bf16⟩
  | .local _ .vmem, ⟨22, _⟩ => ⟨S2048x256, .bf16⟩
  | .local _ .vmem, ⟨23, _⟩ => ⟨S2048x256, .bf16⟩
  | .local _ .vmem, ⟨24, _⟩ => ⟨S2048x384, .bf16⟩
  | .local _ .vmem, ⟨25, _⟩ => ⟨S2048x384, .bf16⟩
  | .local _ .vmem, ⟨26, _⟩ => ⟨S2048x256, .bf16⟩
  | .local _ .vmem, ⟨27, _⟩ => ⟨S2048x256, .bf16⟩
  | .local _ .vmem, ⟨28, _⟩ => ⟨S3x2048x128, .f32⟩
  | .local _ .vmem, ⟨29, _⟩ => ⟨S3x2048x128, .f32⟩
  | .local _ .vmem, ⟨30, _⟩ => ⟨S3x2048x128, .f32⟩
  | _, _ => ⟨S32768x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_c : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_c_0 : Ref sig .tc := ⟨.hbm, 21, rfl⟩
abbrev main_v18 : Ref sig .tc := ⟨.hbm, 22, rfl⟩
abbrev main_v19 : Ref sig .tc := ⟨.hbm, 23, rfl⟩
abbrev main_cst : Ref sig .tc := ⟨.hbm, 24, rfl⟩
abbrev main_cst_1 : Ref sig .tc := ⟨.hbm, 25, rfl⟩
abbrev main_call0_v0 : Ref sig .tc := ⟨.hbm, 26, rfl⟩
abbrev main_call0_v1 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_c_2 : Ref sig .tc := ⟨.hbm, 37, rfl⟩
abbrev main_v29 : Ref sig .tc := ⟨.hbm, 38, rfl⟩
abbrev main_v30 : Ref sig .tc := ⟨.hbm, 39, rfl⟩
abbrev main_c_3 : Ref sig .tc := ⟨.hbm, 40, rfl⟩
abbrev main_v31 : Ref sig .tc := ⟨.hbm, 41, rfl⟩
abbrev main_v32 : Ref sig .tc := ⟨.hbm, 42, rfl⟩
abbrev main_c_4 : Ref sig .tc := ⟨.hbm, 43, rfl⟩
abbrev main_v33 : Ref sig .tc := ⟨.hbm, 44, rfl⟩
abbrev main_v34 : Ref sig .tc := ⟨.hbm, 45, rfl⟩
abbrev main_c_5 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_6 : Ref sig .tc := ⟨.hbm, 52, rfl⟩
abbrev main_cst_7 : Ref sig .tc := ⟨.hbm, 53, rfl⟩
abbrev main_call1_v0 : Ref sig .tc := ⟨.hbm, 54, rfl⟩
abbrev main_call1_v1 : Ref sig .tc := ⟨.hbm, 55, rfl⟩
abbrev main_v40 : Ref sig .tc := ⟨.hbm, 56, rfl⟩
abbrev main_cst_8 : Ref sig .tc := ⟨.hbm, 57, rfl⟩
abbrev main_call2_v0 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44_0 : Ref sig .tc := ⟨.hbm, 62, rfl⟩
abbrev main_v44_1 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_scratch0 : Ref sig .tc := ⟨.vmem, 28, rfl⟩
abbrev cc0_scratch1 : Ref sig .tc := ⟨.vmem, 29, rfl⟩
abbrev cc0_scratch2 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.addi c10_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c14_i32 : BitVec 32 := 14#32
  let v0 : BitVec 32 := Scalar.addi c14_i32 arg1
  let c0_i32 : BitVec 32 := 0#32
  ![arg0.toNat, v0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![arg0.toNat, c0_i32_0.toNat, c0_i32_1.toNat, v0.toNat]

def cc0_transform_5 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let c0_i32_0 : BitVec 32 := 0#32
  let c0_i32_1 : BitVec 32 := 0#32
  ![arg0.toNat, c0_i32.toNat, c0_i32_0.toNat, v0.toNat]

def cc0_transform_6 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  let c0_i32_1 : BitVec 32 := 0#32
  ![arg0.toNat, c0_i32.toNat, c0_i32_0.toNat, v0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c0_i32 : BitVec 32 := 0#32
  ![arg0.toNat, v0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  ![arg0.toNat, v0.toNat]

def cc0_transform_12 (i : grid0.Coords) : Fin 2 → Nat :=
  let arg0 : BitVec 32 := BitVec.ofNat 32 (i 0).val
  let arg1 : BitVec 32 := BitVec.ofNat 32 (i 1).val
  let c26_i32 : BitVec 32 := 26#32
  let v0 : BitVec 32 := Scalar.addi c26_i32 arg1
  let c0_i32 : BitVec 32 := 0#32
  ![arg0.toNat, v0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4x512x384 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x4x512x384 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x4x512x384 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S3x128x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S512x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S2048x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S256x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S256x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S2048x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S2048x384 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S2048x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== Memory.lean ====
abbrev S32768x7168 : Shape := ⟨2, ![32768, 7168]⟩
abbrev S4096x1024 : Shape := ⟨2, ![4096, 1024]⟩
abbrev S32768x2304 : Shape := ⟨2, ![32768, 2304]⟩
abbrev S16x512x4x2304 : Shape := ⟨4, ![16, 512, 4, 2304]⟩
abbrev S16x4x512x2304 : Shape := ⟨4, ![16, 4, 512, 2304]⟩
abbrev S128 : Shape := ⟨1, ![128]⟩
abbrev S1x128x1 : Shape := ⟨3, ![1, 128, 1]⟩
abbrev S256 : Shape := ⟨1, ![256]⟩
abbrev S1x1x256 : Shape := ⟨3, ![1, 1, 256]⟩
abbrev S3 : Shape := ⟨1, ![3]⟩
abbrev S3x1x1 : Shape := ⟨3, ![3, 1, 1]⟩
abbrev S_ : Shape := ⟨0, ![]⟩
abbrev S3x1x256 : Shape := ⟨3, ![3, 1, 256]⟩
abbrev S3x128x256 : Shape := ⟨3, ![3, 128, 256]⟩
abbrev S512 : Shape := ⟨1, ![512]⟩
abbrev S1x512 : Shape := ⟨2, ![1, 512]⟩
abbrev S512x1 : Shape := ⟨2, ![512, 1]⟩
abbrev S512x512 : Shape := ⟨2, ![512, 512]⟩
abbrev S32768x768 : Shape := ⟨2, ![32768, 768]⟩
abbrev S32768x512 : Shape := ⟨2, ![32768, 512]⟩
abbrev S2048x384 : Shape := ⟨2, ![2048, 384]⟩
abbrev S1x4x512x384 : Shape := ⟨4, ![1, 4, 512, 384]⟩
abbrev S2048x256 : Shape := ⟨2, ![2048, 256]⟩
abbrev S256x256 : Shape := ⟨2, ![256, 256]⟩
abbrev S3x2048x128 : Shape := ⟨3, ![3, 2048, 128]⟩
abbrev S512x128 : Shape := ⟨2, ![512, 128]⟩
abbrev S256x128 : Shape := ⟨2, ![256, 128]⟩
abbrev S512x256 : Shape := ⟨2, ![512, 256]⟩
abbrev S1x1x512x128 : Shape := ⟨4, ![1, 1, 512, 128]⟩
abbrev S1x512x128 : Shape := ⟨3, ![1, 512, 128]⟩
abbrev S128x128 : Shape := ⟨2, ![128, 128]⟩
abbrev S128x256 : Shape := ⟨2, ![128, 256]⟩
abbrev S1x128x256 : Shape := ⟨3, ![1, 128, 256]⟩
abbrev S128x1 : Shape := ⟨2, ![128, 1]⟩
abbrev S1x128x128 : Shape := ⟨3, ![1, 128, 128]⟩

abbrev nBuf : Space → Nat
  | .hbm => 64
  | .vmem => 31
  | .smem => 0
  | _ => 0

abbrev bufTy : (tb : Table) → Fin (tcTables nBuf tb) → BufTy
  | .hbm, ⟨0, _⟩ => ⟨S32768x7168, .bf16⟩
  | .hbm, ⟨1, _⟩ => ⟨S4096x1024, .bf16⟩
  | .hbm, ⟨2, _⟩ => ⟨S32768x2304, .bf16⟩
  | .hbm, ⟨3, _⟩ => ⟨S16x512x4x2304, .bf16⟩
  | .hbm, ⟨4, _⟩ => ⟨S16x4x512x2304, .bf16⟩
  | .hbm, ⟨5, _⟩ => ⟨S128, .i32⟩
  | .hbm, ⟨6, _⟩ => ⟨S1x128x1, .i32⟩
  | .hbm, ⟨7, _⟩ => ⟨S256, .i32⟩
  | .hbm, ⟨8, _⟩ => ⟨S1x1x256, .i32⟩
  | .hbm, ⟨9, _⟩ => ⟨S3, .i32⟩
  | .hbm, ⟨10, _⟩ => ⟨S3x1x1, .i32⟩
  | .hbm, ⟨11, _⟩ => ⟨S_, .i32⟩
  | .hbm, ⟨12, _⟩ => ⟨S3x1x1, .i32⟩
  | .hbm, ⟨13, _⟩ => ⟨S3x1x1, .i32⟩
  | .hbm, ⟨14, _⟩ => ⟨S3x1x256, .i32⟩
  | .hbm, ⟨15, _⟩ => ⟨S3x1x256, .i32⟩
  | .hbm, ⟨16, _⟩ => ⟨S3x1x256, .i32⟩
  | .hbm, ⟨17, _⟩ => ⟨S3x128x256, .i32⟩
  | .hbm, ⟨18, _⟩ => ⟨S3x128x256, .i32⟩
  | .hbm, ⟨19, _⟩ => ⟨S3x128x256, .i32⟩
  | .hbm, ⟨20, _⟩ => ⟨S3x128x256, .i32⟩
  | .hbm, ⟨21, _⟩ => ⟨S_, .i32⟩
  | .hbm, ⟨22, _⟩ => ⟨S3x128x256, .i32⟩
  | .hbm, ⟨23, _⟩ => ⟨S3x128x256, .i1⟩
  | .hbm, ⟨24, _⟩ => ⟨S_, .f32⟩
  | .hbm, ⟨25, _⟩ => ⟨S_, .f32⟩
  | .hbm, ⟨26, _⟩ => ⟨S3x128x256, .f32⟩
  | .hbm, ⟨27, _⟩ => ⟨S3x128x256, .f32⟩
  | .hbm, ⟨28, _⟩ => ⟨S3x128x256, .f32⟩
  | .hbm, ⟨29, _⟩ => ⟨S512, .i32⟩
  | .hbm, ⟨30, _⟩ => ⟨S1x512, .i32⟩
  | .hbm, ⟨31, _⟩ => ⟨S512, .i32⟩
  | .hbm, ⟨32, _⟩ => ⟨S512x1, .i32⟩
  | .hbm, ⟨33, _⟩ => ⟨S512x512, .i32⟩
  | .hbm, ⟨34, _⟩ => ⟨S512x512, .i32⟩
  | .hbm, ⟨35, _⟩ => ⟨S512x512, .i32⟩
  | .hbm, ⟨36, _⟩ => ⟨S512x512, .i32⟩
  | .hbm, ⟨37, _⟩ => ⟨S_, .i32⟩
  | .hbm, ⟨38, _⟩ => ⟨S512x512, .i32⟩
  | .hbm, ⟨39, _⟩ => ⟨S512x512, .i1⟩
  | .hbm, ⟨40, _⟩ => ⟨S_, .i32⟩
  | .hbm, ⟨41, _⟩ => ⟨S512x512, .i32⟩
  | .hbm, ⟨42, _⟩ => ⟨S512x512, .i32⟩
  | .hbm, ⟨43, _⟩ => ⟨S_, .i32⟩
  | .hbm, ⟨44, _⟩ => ⟨S512x512, .i32⟩
  | .hbm, ⟨45, _⟩ => ⟨S512x512, .i1⟩
  | .hbm, ⟨46, _⟩ => ⟨S_, .i32⟩
  | .hbm, ⟨47, _⟩ => ⟨S512x512, .i32⟩
  | .hbm, ⟨48, _⟩ => ⟨S512x512, .i1⟩
  | .hbm, ⟨49, _⟩ => ⟨S512x512, .i1⟩
  | .hbm, ⟨50, _⟩ => ⟨S512x512, .i1⟩
  | .hbm, ⟨51, _⟩ => ⟨S512x512, .i1⟩
  | .hbm, ⟨52, _⟩ => ⟨S_, .f32⟩
  | .hbm, ⟨53, _⟩ => ⟨S_, .f32⟩
  | .hbm, ⟨54, _⟩ => ⟨S512x512, .f32⟩
  | .hbm, ⟨55, _⟩ => ⟨S512x512, .f32⟩
  | .hbm, ⟨56, _⟩ => ⟨S512x512, .f32⟩
  | .hbm, ⟨57, _⟩ => ⟨S_, .f32⟩
  | .hbm, ⟨58, _⟩ => ⟨S512x512, .f32⟩
  | .hbm, ⟨59, _⟩ => ⟨S512x512, .f32⟩
  | .hbm, ⟨60, _⟩ => ⟨S3x128x256, .f32⟩
  | .hbm, ⟨61, _⟩ => ⟨S512x512, .f32⟩
  | .hbm, ⟨62, _⟩ => ⟨S32768x768, .bf16⟩
  | .hbm, ⟨63, _⟩ => ⟨S32768x512, .bf16⟩
  | .local _ .vmem, ⟨0, _⟩ => ⟨S2048x384, .bf16⟩
  | .local _ .vmem, ⟨1, _⟩ => ⟨S2048x384, .bf16⟩
  | .local _ .vmem, ⟨2, _⟩ => ⟨S2048x384, .bf16⟩
  | .local _ .vmem, ⟨3, _⟩ => ⟨S2048x384, .bf16⟩
  | .local _ .vmem, ⟨4, _⟩ => ⟨S2048x384, .bf16⟩
  | .local _ .vmem, ⟨5, _⟩ => ⟨S2048x384, .bf16⟩
  | .local _ .vmem, ⟨6, _⟩ => ⟨S2048x384, .bf16⟩
  | .local _ .vmem, ⟨7, _⟩ => ⟨S2048x384, .bf16⟩
  | .local _ .vmem, ⟨8, _⟩ => ⟨S1x4x512x384, .bf16⟩
  | .local _ .vmem, ⟨9, _⟩ => ⟨S1x4x512x384, .bf16⟩
  | .local _ .vmem, ⟨10, _⟩ => ⟨S1x4x512x384, .bf16⟩
  | .local _ .vmem, ⟨11, _⟩ => ⟨S1x4x512x384, .bf16⟩
  | .local _ .vmem, ⟨12, _⟩ => ⟨S1x4x512x384, .bf16⟩
  | .local _ .vmem, ⟨13, _⟩ => ⟨S1x4x512x384, .bf16⟩
  | .local _ .vmem, ⟨14, _⟩ => ⟨S3x128x256, .f32⟩
  | .local _ .vmem, ⟨15, _⟩ => ⟨S512x512, .f32⟩
  | .local _ .vmem, ⟨16, _⟩ => ⟨S2048x256, .bf16⟩
  | .local _ .vmem, ⟨17, _⟩ => ⟨S2048x256, .bf16⟩
  | .local _ .vmem, ⟨18, _⟩ => ⟨S256x256, .bf16⟩
  | .local _ .vmem, ⟨19, _⟩ => ⟨S256x256, .bf16⟩
  | .local _ .vmem, ⟨20, _⟩ => ⟨S256x256, .bf16⟩
  | .local _ .vmem, ⟨21, _⟩ => ⟨S256x256, .bf16⟩
  | .local _ .vmem, ⟨22, _⟩ => ⟨S2048x256, .bf16⟩
  | .local _ .vmem, ⟨23, _⟩ => ⟨S2048x256, .bf16⟩
  | .local _ .vmem, ⟨24, _⟩ => ⟨S2048x384, .bf16⟩
  | .local _ .vmem, ⟨25, _⟩ => ⟨S2048x384, .bf16⟩
  | .local _ .vmem, ⟨26, _⟩ => ⟨S2048x256, .bf16⟩
  | .local _ .vmem, ⟨27, _⟩ => ⟨S2048x256, .bf16⟩
  | .local _ .vmem, ⟨28, _⟩ => ⟨S3x2048x128, .f32⟩
  | .local _ .vmem, ⟨29, _⟩ => ⟨S3x2048x128, .f32⟩
  | .local _ .vmem, ⟨30, _⟩ => ⟨S3x2048x128, .f32⟩
  | _, _ => ⟨S32768x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_c : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_c_0 : Ref sig .tc := ⟨.hbm, 21, rfl⟩
abbrev main_v18 : Ref sig .tc := ⟨.hbm, 22, rfl⟩
abbrev main_v19 : Ref sig .tc := ⟨.hbm, 23, rfl⟩
abbrev main_cst : Ref sig .tc := ⟨.hbm, 24, rfl⟩
abbrev main_cst_1 : Ref sig .tc := ⟨.hbm, 25, rfl⟩
abbrev main_call0_v0 : Ref sig .tc := ⟨.hbm, 26, rfl⟩
abbrev main_call0_v1 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_c_2 : Ref sig .tc := ⟨.hbm, 37, rfl⟩
abbrev main_v29 : Ref sig .tc := ⟨.hbm, 38, rfl⟩
abbrev main_v30 : Ref sig .tc := ⟨.hbm, 39, rfl⟩
abbrev main_c_3 : Ref sig .tc := ⟨.hbm, 40, rfl⟩
abbrev main_v31 : Ref sig .tc := ⟨.hbm, 41, rfl⟩
abbrev main_v32 : Ref sig .tc := ⟨.hbm, 42, rfl⟩
abbrev main_c_4 : Ref sig .tc := ⟨.hbm, 43, rfl⟩
abbrev main_v33 : Ref sig .tc := ⟨.hbm, 44, rfl⟩
abbrev main_v34 : Ref sig .tc := ⟨.hbm, 45, rfl⟩
abbrev main_c_5 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_6 : Ref sig .tc := ⟨.hbm, 52, rfl⟩
abbrev main_cst_7 : Ref sig .tc := ⟨.hbm, 53, rfl⟩
abbrev main_call1_v0 : Ref sig .tc := ⟨.hbm, 54, rfl⟩
abbrev main_call1_v1 : Ref sig .tc := ⟨.hbm, 55, rfl⟩
abbrev main_v40 : Ref sig .tc := ⟨.hbm, 56, rfl⟩
abbrev main_cst_8 : Ref sig .tc := ⟨.hbm, 57, rfl⟩
abbrev main_call2_v0 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44_0 : Ref sig .tc := ⟨.hbm, 62, rfl⟩
abbrev main_v44_1 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_scratch0 : Ref sig .tc := ⟨.vmem, 28, rfl⟩
abbrev cc0_scratch1 : Ref sig .tc := ⟨.vmem, 29, rfl⟩
abbrev cc0_scratch2 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.addi c10_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c14_i32 : BitVec 32 := 14#32
  let v0 : BitVec 32 := Scalar.addi c14_i32 arg1
  let c0_i32 : BitVec 32 := 0#32
  ![arg0.toNat, v0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![arg0.toNat, c0_i32_0.toNat, c0_i32_1.toNat, v0.toNat]

def cc0_transform_5 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let c0_i32_0 : BitVec 32 := 0#32
  let c0_i32_1 : BitVec 32 := 0#32
  ![arg0.toNat, c0_i32.toNat, c0_i32_0.toNat, v0.toNat]

def cc0_transform_6 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  let c0_i32_1 : BitVec 32 := 0#32
  ![arg0.toNat, c0_i32.toNat, c0_i32_0.toNat, v0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c0_i32 : BitVec 32 := 0#32
  ![arg0.toNat, v0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  ![arg0.toNat, v0.toNat]

def cc0_transform_12 (i : grid0.Coords) : Fin 2 → Nat :=
  let arg0 : BitVec 32 := BitVec.ofNat 32 (i 0).val
  let arg1 : BitVec 32 := BitVec.ofNat 32 (i 1).val
  let c26_i32 : BitVec 32 := 26#32
  let v0 : BitVec 32 := Scalar.addi c26_i32 arg1
  let c0_i32 : BitVec 32 := 0#32
  ![arg0.toNat, v0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4x512x384 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x4x512x384 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x4x512x384 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S3x128x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S512x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S2048x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S256x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S256x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S2048x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S2048x384 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S2048x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== MemoryRefIdeal.lean ====
abbrev S32768x7168 : Shape := ⟨2, ![32768, 7168]⟩
abbrev S4096x1024 : Shape := ⟨2, ![4096, 1024]⟩
abbrev S32768x512 : Shape := ⟨2, ![32768, 512]⟩
abbrev S16x2048x4x128 : Shape := ⟨4, ![16, 2048, 4, 128]⟩
abbrev S4096x512 : Shape := ⟨2, ![4096, 512]⟩
abbrev S16x256x4x128 : Shape := ⟨4, ![16, 256, 4, 128]⟩
abbrev S16x4x2048x256 : Shape := ⟨4, ![16, 4, 2048, 256]⟩
abbrev S_ : Shape := ⟨0, ![]⟩
abbrev S16x4x2048 : Shape := ⟨3, ![16, 4, 2048]⟩
abbrev S16x4x2048x1 : Shape := ⟨4, ![16, 4, 2048, 1]⟩
abbrev S16x4x128x2048 : Shape := ⟨4, ![16, 4, 128, 2048]⟩

abbrev nBuf : Space → Nat
  | .hbm => 38
  | .vmem => 0
  | .smem => 0
  | _ => 0

abbrev bufTy : (tb : Table) → Fin (tcTables nBuf tb) → BufTy
  | .hbm, ⟨0, _⟩ => ⟨S32768x7168, .bf16⟩
  | .hbm, ⟨1, _⟩ => ⟨S4096x1024, .bf16⟩
  | .hbm, ⟨2, _⟩ => ⟨S32768x512, .bf16⟩
  | .hbm, ⟨3, _⟩ => ⟨S32768x512, .f32⟩
  | .hbm, ⟨4, _⟩ => ⟨S16x2048x4x128, .f32⟩
  | .hbm, ⟨5, _⟩ => ⟨S32768x512, .bf16⟩
  | .hbm, ⟨6, _⟩ => ⟨S32768x512, .f32⟩
  | .hbm, ⟨7, _⟩ => ⟨S16x2048x4x128, .f32⟩
  | .hbm, ⟨8, _⟩ => ⟨S4096x512, .bf16⟩
  | .hbm, ⟨9, _⟩ => ⟨S4096x512, .f32⟩
  | .hbm, ⟨10, _⟩ => ⟨S16x256x4x128, .f32⟩
  | .hbm, ⟨11, _⟩ => ⟨S4096x512, .bf16⟩
  | .hbm, ⟨12, _⟩ => ⟨S4096x512, .f32⟩
  | .hbm, ⟨13, _⟩ => ⟨S16x256x4x128, .f32⟩
  | .hbm, ⟨14, _⟩ => ⟨S16x4x2048x256, .f32⟩
  | .hbm, ⟨15, _⟩ => ⟨S_, .f32⟩
  | .hbm, ⟨16, _⟩ => ⟨S_, .f32⟩
  | .hbm, ⟨17, _⟩ => ⟨S16x4x2048x256, .f32⟩
  | .hbm, ⟨18, _⟩ => ⟨S16x4x2048x256, .f32⟩
  | .hbm, ⟨19, _⟩ => ⟨S_, .f32⟩
  | .hbm, ⟨20, _⟩ => ⟨S16x4x2048, .f32⟩
  | .hbm, ⟨21, _⟩ => ⟨S_, .f32⟩
  | .hbm, ⟨22, _⟩ => ⟨S16x4x2048, .f32⟩
  | .hbm, ⟨23, _⟩ => ⟨S16x4x2048, .f32⟩
  | .hbm, ⟨24, _⟩ => ⟨S16x4x2048x1, .f32⟩
  | .hbm, ⟨25, _⟩ => ⟨S16x4x2048x256, .f32⟩
  | .hbm, ⟨26, _⟩ => ⟨S16x4x2048x256, .f32⟩
  | .hbm, ⟨27, _⟩ => ⟨S16x4x2048x256, .f32⟩
  | .hbm, ⟨28, _⟩ => ⟨S_, .f32⟩
  | .hbm, ⟨29, _⟩ => ⟨S16x4x2048, .f32⟩
  | .hbm, ⟨30, _⟩ => ⟨S16x4x2048x1, .f32⟩
  | .hbm, ⟨31, _⟩ => ⟨S16x4x2048x256, .f32⟩
  | .hbm, ⟨32, _⟩ => ⟨S16x4x2048x256, .f32⟩
  | .hbm, ⟨33, _⟩ => ⟨S16x4x128x2048, .f32⟩
  | .hbm, ⟨34, _⟩ => ⟨S16x2048x4x128, .f32⟩
  | .hbm, ⟨35, _⟩ => ⟨S16x2048x4x128, .f32⟩
  | .hbm, ⟨36, _⟩ => ⟨S32768x512, .f32⟩
  | .hbm, ⟨37, _⟩ => ⟨S32768x512, .bf16⟩
  | _, _ => ⟨S32768x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_cst : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_cst_0 : Ref sig .tc := ⟨.hbm, 19, rfl⟩
abbrev main_v16 : Ref sig .tc := ⟨.hbm, 20, rfl⟩
abbrev main_cst_1 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst_2 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩

abbrev nD : Nat := 1
abbrev τ : Topo := Topo.v7x

variable {F : FTy → Type} [FloatOps F]
-- ==== Proof.OutValue.lean ====
/- The output projection: after the last grid point the result array is the reference's term of the arguments. -/
module

public import proofs.«01_k».proof.Proof.Gen.OutProjIdeal.Value
public import proofs.«01_k».proof.Proof.Gen.OutRefIdeal.Read
public import Idealize.ShloMosaic.Lib.Pointwise
public import Idealize.ShloMosaic.Lib.Claim
public import Idealize.ShloMosaic.Lib.Pipeline.ValueKit

@[expose] public section

set_option maxRecDepth 16384

noncomputable section

namespace Cert.OutValue

open Cert.OutProjIdeal Cert.OutProjIdeal.Gen Cert.OutRefIdeal.Read
open Idealize.ShloMosaic Idealize.ShloMosaic.TcCoe Idealize.SL.Sem
open Idealize.ShloMosaic.Pipeline (Dat)

variable (m : (ℓ : Loc nD τ sig) → Buf (Elt Ideal) ℓ)

/-- The reference's result over the kernel's argument arrays. -/
abbrev want (c : Dev nD) : FVec Ideal S32768x2048 .f32 :=
  val_main_v17 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5))

/-- Which block each window holds at a grid point. -/
theorem places : ∀ t : Fin cfg0.N, win0_0.index t = ![t.val, 0] ∧ win0_1.index t = ![t.val, 0]
    ∧ win0_2.index t = ![t.val, 0] ∧ win0_3.index t = ![t.val, 0] ∧ win0_4.index t = ![0, 0]
    ∧ win0_5.index t = ![0, 0] ∧ win0_6.index t = ![t.val, 0] :=
  (by decide +kernel : ∀ t : Fin grid0.N, _)

/-- A sum over 2048 channels is the sum over the three heads' groups of channels, one after the other. -/
theorem sum_groups (f : Fin 2048 → EReal) : ∑ x, f x
    = ∑ x : Fin 768, f ⟨x.val, by omega⟩ + ∑ x : Fin 768, f ⟨768 + x.val, by omega⟩
      + ∑ x : Fin 512, f ⟨1536 + x.val, by omega⟩ := by
  have h1 : ∑ x, f x = _ := Fin.sum_univ_add (a := 1536) (b := 512) f
  have h2 := Fin.sum_univ_add (a := 768) (b := 768) fun x => f (Fin.castAdd 512 x)
  rw [h1, h2]
  rfl

/-- One row of the residual stream after the projection: the row plus the heads' outputs times the weights. -/
def mixed (X : Fin 2048 → EReal) (A B : Fin 768 → EReal) (C : Fin 512 → EReal) (W : Fin 2048 → Fin 2048 → EReal)
    (n : Fin 2048) : EReal :=
  X n + (∑ x : Fin 768, A x * W ⟨x.val, by omega⟩ n + ∑ x : Fin 768, B x * W ⟨768 + x.val, by omega⟩ n
    + ∑ x : Fin 512, C x * W ⟨1536 + x.val, by omega⟩ n)

/-- A row divided by its root mean square and scaled. -/
def normed (h g : Fin 2048 → EReal) (n : Fin 2048) : EReal :=
  h n * Ideal.rsqrt (Ideal.div (∑ x, h x * h x) (Ideal.ofBits FTy.f32 1157627904#32)
    + Ideal.ofBits FTy.f32 897988541#32) * g n

/-- What the body stores, at an index of its block. -/
theorem block_at (x : FVec Ideal S1024x2048 .f32) (a b : FVec Ideal S1024x768 .bf16) (d : FVec Ideal S1024x512 .bf16)
    (w : FVec Ideal S2048x2048 .bf16) (g : FVec Ideal S1x2048 .f32) (r : Fin 1024) (n : Fin 2048) :
    (out0_6 (F := Ideal) x a b d w g : FVec Ideal S1024x2048 .f32) (ix2 r n)
      = normed (mixed (fun k => x (ix2 r k)) (fun k => a (ix2 r k)) (fun k => b (ix2 r k)) (fun k => d (ix2 r k))
          fun k l => w (ix2 k l)) (fun k => g (ix2 0 k)) n := by
  frame_out
  pointwise [k0_pay1]
  rfl

/-- The reference's projection, at an index. -/
theorem reference_mixed (x : FVec Ideal S16x2048x2048 .f32) (a b : FVec Ideal S16x2048x768 .bf16)
    (d : FVec Ideal S16x2048x512 .bf16) (w : FVec Ideal S2048x2048 .f32) (i : Fin 16) (r n : Fin 2048) :
    val_main_v3 (F := Ideal) x a b d w (ix3 i r n)
      = mixed (fun k => x (ix3 i r k)) (fun k => a (ix3 i r k)) (fun k => b (ix3 i r k)) (fun k => d (ix3 i r k))
          (fun k l => w (ix2 k l)) n := by
  pointwise [val_main_v0, val_main_v1, val_main_v2, val_main_v3]
  rw [sum_groups]
  unfold mixed
  congr 2

/-- The reference's result, at an index. -/
theorem reference_at (x : FVec Ideal S16x2048x2048 .f32) (a b : FVec Ideal S16x2048x768 .bf16)
    (d : FVec Ideal S16x2048x512 .bf16) (w : FVec Ideal S2048x2048 .f32) (g : FVec Ideal S2048 .f32) (R : Fin 32768) (n : Fin 2048) :
    val_main_v17 (F := Ideal) x a b d w g (ix2 R n)
      = normed (fun l => val_main_v3 (F := Ideal) x a b d w (ix3 ⟨R.val / 2048, by omega⟩ ⟨R.val % 2048, by omega⟩ l))
          (fun k => g (ix1 k)) n := by
  pointwise [val_main_v4, val_main_v5, val_main_v6, val_main_v7, val_main_v8, val_main_v9, val_main_v10, val_main_v11,
    val_main_v12, val_main_v13, val_main_v14, val_main_v15, val_main_v16, val_main_v17, val_main_cst, val_main_cst_0,
    val_main_cst_1]
  rfl

/-- The residual block of a grid point, read at an index. -/
theorem read0 (c : Dev nD) (t : Fin cfg0.N) (r : Fin 1024) (k : Fin 2048) (h : t.val < 32) :
    (iblk m c 0 t : FVec Ideal S1024x2048 .f32) (ix2 r k)
      = (m ((c : Thread nD τ).loc main_arg0) : FVec Ideal S16x2048x2048 .f32)
        (ix3 ⟨(t.val * 1024 + r.val) / 2048, by omega⟩ ⟨(t.val * 1024 + r.val) % 2048, by omega⟩ k) := by
  blk_simp [iblk, places t]
  entry_read
  pointwise
  blk_ext [places t]

/-- The neighbourhood block of a grid point, read at an index. -/
theorem read1 (c : Dev nD) (t : Fin cfg0.N) (r : Fin 1024) (k : Fin 768) (h : t.val < 32) :
    (iblk m c 1 t : FVec Ideal S1024x768 .bf16) (ix2 r k)
      = (m ((c : Thread nD τ).loc main_arg1) : FVec Ideal S16x2048x768 .bf16)
        (ix3 ⟨(t.val * 1024 + r.val) / 2048, by omega⟩ ⟨(t.val * 1024 + r.val) % 2048, by omega⟩ k) := by
  blk_simp [iblk, places t]
  entry_read
  pointwise
  blk_ext [places t]

/-- The dilated block of a grid point, read at an index. -/
theorem read2 (c : Dev nD) (t : Fin cfg0.N) (r : Fin 1024) (k : Fin 768) (h : t.val < 32) :
    (iblk m c 2 t : FVec Ideal S1024x768 .bf16) (ix2 r k)
      = (m ((c : Thread nD τ).loc main_arg2) : FVec Ideal S16x2048x768 .bf16)
        (ix3 ⟨(t.val * 1024 + r.val) / 2048, by omega⟩ ⟨(t.val * 1024 + r.val) % 2048, by omega⟩ k) := by
  blk_simp [iblk, places t]
  entry_read
  pointwise
  blk_ext [places t]

/-- The memory block of a grid point, read at an index. -/
theorem read3 (c : Dev nD) (t : Fin cfg0.N) (r : Fin 1024) (k : Fin 512) (h : t.val < 32) :
    (iblk m c 3 t : FVec Ideal S1024x512 .bf16) (ix2 r k)
      = (m ((c : Thread nD τ).loc main_arg3) : FVec Ideal S16x2048x512 .bf16)
        (ix3 ⟨(t.val * 1024 + r.val) / 2048, by omega⟩ ⟨(t.val * 1024 + r.val) % 2048, by omega⟩ k) := by
  blk_simp [iblk, places t]
  entry_read
  pointwise
  blk_ext [places t]

/-- The weights a grid point holds are the weights. -/
theorem read4 (c : Dev nD) (t : Fin cfg0.N) (k n : Fin 2048) :
    (iblk m c 4 t : FVec Ideal S2048x2048 .bf16) (ix2 k n)
      = (m ((c : Thread nD τ).loc main_arg4) : FVec Ideal S2048x2048 .f32) (ix2 k n) := by
  blk_simp [iblk, places t]
  entry_read
  pointwise
  blk_ext [places t]

/-- The scale a grid point holds is the scale. -/
theorem read5 (c : Dev nD) (t : Fin cfg0.N) (n : Fin 2048) :
    (iblk m c 5 t : FVec Ideal S1x2048 .f32) (ix2 0 n)
      = (m ((c : Thread nD τ).loc main_arg5) : FVec Ideal S2048 .f32) (ix1 n) := by
  blk_simp [iblk, places t]
  entry_read
  pointwise
  blk_ext [places t]

/-- What a grid point stores at an index of its block is the reference's result where that index sits. -/
theorem stored (c : Dev nD) (t : Fin cfg0.N) (y : S1024x2048.Idx) :
    out0_6 (iblk m c 0 t) (iblk m c 1 t) (iblk m c 2 t) (iblk m c 3 t) (iblk m c 4 t) (iblk m c 5 t) y
      = want m c (((cfg0.win 6).blk t).view.emb y) := by
  have ht : t.val < 32 := lt_of_lt_of_eq t.isLt N_0
  have hy : ((cfg0.win 6).blk t).view.emb y
      = ix2 (⟨t.val * 1024 + (y 0).val, by have : (y 0).val < 1024 := (y 0).isLt; omega⟩ : Fin 32768) (y 1) := by
    blk_ext [places t]
  refine (congrArg _ (eq_ix2 y)).trans ((block_at _ _ _ _ _ _ (y 0) (y 1)).trans (Eq.trans ?_
    ((congrArg (want m c) hy).trans (reference_at _ _ _ _ _ _ _ _)).symm))
  refine congrArg₂ (fun h g => normed h g (y 1)) (funext fun l => Eq.trans ?_ (reference_mixed _ _ _ _ _ _ _ l).symm) ?_
  · have h0 := fun k => read0 m c t (y 0) k ht
    have h1 := fun k => read1 m c t (y 0) k ht
    have h2 := fun k => read2 m c t (y 0) k ht
    have h3 := fun k => read3 m c t (y 0) k ht
    have h4 := fun k n => read4 m c t k n
    rw [funext h0, funext h1, funext h2, funext h3, funext fun k => funext (h4 k)]
  · exact funext fun l => read5 m c t l

/-- The result array after the run. -/
theorem final (c : Dev nD) : (dats m 0 c).arrAt 6 cfg0.N = want m c := by
  refine (dats m 0 c).arrAt_eq_of_covers 6 _ (by decide +kernel) fun t _ y => ?_
  blk_simp
  rw [after0_6]
  exact stored m c t y

end Cert.OutValue

end
-- ==== Proof.InBlock.lean ====
/- The input projection of one grid point: its rows normed and projected, each segment of columns finished in its own way. -/
module

public import proofs.«01_k».proof.Proof.Gen.InProjIdeal.Value
public import Idealize.ShloMosaic.Lib.Pointwise
public import Idealize.ShloMosaic.Lib.Claim
public import Idealize.ShloMosaic.Lib.Pipeline.ValueKit

@[expose] public section

set_option maxRecDepth 16384

noncomputable section

namespace Cert.InValue

open Cert.InProjIdeal Cert.InProjIdeal.Gen
open Idealize.ShloMosaic Idealize.ShloMosaic.TcCoe Idealize.SL.Sem
open Idealize.ShloMosaic.Pipeline (Dat)

variable (m : (ℓ : Loc nD τ sig) → Buf (Elt Ideal) ℓ)

/-- One entry of a normed row times the weights. -/
def row (X G : Fin 2048 → EReal) (W : Fin 2048 → Fin 7168 → EReal) (n : Fin 7168) : EReal :=
  ∑ k, X k * Ideal.rsqrt (Ideal.div (∑ l, X l * X l) (Ideal.ofBits FTy.f32 1157627904#32)
    + Ideal.ofBits FTy.f32 897988541#32) * G k * W k n

/-- A column turned by its angle: itself times the cosine plus its partner half a head away times the signed sine. -/
def turn (a : Fin 7168 → EReal) (C S : Fin 128 → EReal) (n : Fin 7168) : EReal :=
  a n * C ⟨n.val % 128, by omega⟩
    + a ⟨n.val / 128 * 128 + (n.val % 128 + 64) % 128, by omega⟩ * S ⟨n.val % 128, by omega⟩

/-- A gate's value. -/
def gate (a : EReal) : EReal := a * Ideal.div 1 (1 + Ideal.exp (0 - a))

/-- What becomes of a column of the projection, by the segment it lies in. -/
def cell (a : Fin 7168 → EReal) (C S : Fin 128 → EReal) (u : EReal) (n : Fin 7168) : EReal :=
  if n.val < 768 then a n * u
  else if n.val < 2304 then a n
  else if n.val < 3072 then gate (a n)
  else if n.val < 3840 then turn a C S n * u
  else if n.val < 4608 then turn a C S n
  else if n.val < 5376 then a n
  else if n.val < 6144 then gate (a n)
  else if n.val < 6656 then a n * u
  else gate (a n)

/-- The reciprocal of the unit of the scores, as the kernel's named constant. -/
abbrev unit : EReal := Named.named (F := Ideal) (φ := FTy.f32) κ "unit" 0x3E0293EE#32

/-- A grid point's projection of its row `r`, segment by segment. -/
abbrev blockCell (c : Dev nD) (t : Fin cfg0.N) (r : Fin 512) (n : Fin 7168) : EReal :=
  cell (row (fun k => (iblk m c 0 t : FVec Ideal S512x2048 .f32) (ix2 r k)) (fun k => (iblk m c 1 t : FVec Ideal S1x2048 .f32) (ix2 0 k))
    fun k l => (iblk m c 2 t : FVec Ideal S1x2048x7168 .bf16) (ix3 0 k l)) (fun j => (iblk m c 3 t : FVec Ideal S512x128 .f32) (ix2 r j))
    (fun j => (iblk m c 4 t : FVec Ideal S512x128 .f32) (ix2 r j)) unit n

set_option maxHeartbeats 4000000 in
/-- What a grid point stores of the projection, at an index of its block. -/
theorem block5 (c : Dev nD) (t : Fin cfg0.N) (r : Fin 512) (n : Fin 7168) :
    (outsAt0 m c t).1 (ix2 r n) = blockCell m c t r n := by
  unfold Gen.outsAt0
  frame_out
  canon_tiles x h using (View.cover_of_tiledBy _ ![512, 128] (by sl_kernel_rfl) _)
  all_goals
    have e0 : r = x 0 := Fin.ext h0
    have e1 : n.val = _ := h1
    subst e0
    unfold blockCell cell
    repeat (first | rw [if_pos (by omega)] | rw [if_neg (by omega)])
    open_payloads
    pointwise [row, turn, gate]
    blk_point []

end Cert.InValue

end
-- ==== Proof.InStream.lean ====
/- The dilated heads of one grid point, stored once more by residue: every fourth row of a scratch slab. -/
module

public import proofs.«01_k».proof.Proof.InBlock
public import Idealize.ShloMosaic.Lib.Pointwise
public import Idealize.ShloMosaic.Lib.Claim
public import Idealize.ShloMosaic.Lib.Pipeline.ValueKit

@[expose] public section

set_option maxRecDepth 16384

noncomputable section

namespace Cert.InValue

open Cert.InProjIdeal Cert.InProjIdeal.Gen
open Idealize.ShloMosaic Idealize.ShloMosaic.TcCoe Idealize.SL.Sem
open Idealize.ShloMosaic.Pipeline (Dat)

variable (m : (ℓ : Loc nD τ sig) → Buf (Elt Ideal) ℓ)

/-- A read of every fourth row of a scratch slab, the slab stored last, is the stored slab's row there. -/
theorem slab (v : View sig .tc .vmem S6x512x128 .f32) (k r : ℕ) (inb : ∀ a, (![k, 0, 0] : Fin 3 → ℕ) a + (![1, 512, 128] : Fin 3 → ℕ) a ≤ S6x512x128.size a)
    (inb' : ∀ a : Fin 3, (![1, 128, 128] : Fin 3 → ℕ) a = 0 ∨ (![k, r, 0] : Fin 3 → ℕ) a + (![1, 4, 1] : Fin 3 → ℕ) a * ((![1, 128, 128] : Fin 3 → ℕ) a - 1) < S6x512x128.size a)
    (w : FVec Ideal S1x512x128 .f32) (L : List (View.Piece (Elt Ideal) S6x512x128 .f32)) (hr : r < 4) :
    v.readCov ((⟨Rect.unit ![k, 0, 0] ![1, 512, 128] inb, w⟩ : View.Piece (Elt Ideal) S6x512x128 .f32) :: L)
        (⟨![k, r, 0], ![1, 128, 128], ![1, 4, 1], inb'⟩ : LoadRect S6x512x128)
      = fun j : S1x128x128.Idx => w (ix3 0 ⟨r + 4 * (j 1).val, by have : (j 1).val < 128 := (j 1).isLt; omega⟩ (j 2)) := by
  rw [View.readCov_eq_canon']
  funext j
  refine (congrArg _ ?_).trans (View.canon_cons_emb (Val := Elt Ideal) (Rect.unit (s := S6x512x128) ![k, 0, 0] ![1, 512, 128] inb) w L
    (ix3 0 ⟨r + 4 * (j 1).val, by have : (j 1).val < 128 := (j 1).isLt; omega⟩ (j 2)))
  have h0 : (j 0).val < 1 := (j 0).isLt
  funext a
  refine Fin.ext ?_
  fin_cases a
  · show k + 1 * (j 0).val = k + 1 * 0
    omega
  · show r + 4 * (j 1).val = 0 + 1 * (r + 4 * (j 1).val)
    omega
  · show 0 + 1 * (j 2).val = 0 + 1 * (j 2).val
    rfl

set_option maxHeartbeats 8000000 in
/-- What a grid point stores of the dilated heads' columns, row `s + 4 q` of the block as row `q` of residue `s`. -/
theorem block6 (c : Dev nD) (t : Fin cfg0.N) (s : Fin 4) (q : Fin 128) (n : Fin 2304) :
    (outsAt0 m c t).2 (ix4 0 s q n) = blockCell m c t ⟨s.val + 4 * q.val, by omega⟩ ⟨3072 + n.val, by omega⟩ := by
  unfold Gen.outsAt0
  frame_open
  simp (discharger := decide) only [↓ slab]
  frame_out
  canon_tiles x h
  all_goals
    have e1 : s.val = _ := h1
    have e2 : q.val = _ := h2
    have e3 : n.val = _ := h3
    unfold blockCell cell
    repeat (first | rw [if_pos (by show 3072 + n.val < _; omega)] | rw [if_neg (by show ¬ 3072 + n.val < _; omega)])
    open_payloads
    pointwise [row, turn, gate]
    blk_point []

end Cert.InValue

end
-- ==== Proof.InRefAt.lean ====
module

public import proofs.«01_k».proof.Proof.InBlock
public import proofs.«01_k».proof.Proof.Gen.InRefIdeal.Read
public import Idealize.ShloMosaic.Lib.Pointwise
public import Idealize.ShloMosaic.Lib.Claim
public import Idealize.ShloMosaic.Lib.Pipeline.ValueKit

@[expose] public section

set_option maxRecDepth 16384

noncomputable section

namespace Cert.InValue

open Cert.InRefIdeal Cert.InRefIdeal.Read
open Idealize.ShloMosaic Idealize.ShloMosaic.TcCoe Idealize.SL.Sem
open Idealize.ShloMosaic.Pipeline (Dat)

/-- The projected stream, at an index. -/
theorem reference_row (x : FVec Ideal S16x2048x2048 .f32) (g : FVec Ideal S2048 .f32) (w : FVec Ideal S2048x7168 .f32)
    (b : Fin 16) (p : Fin 2048) (n : Fin 7168) :
    val_main_v13 (F := Ideal) x g w (ix3 b p n) = row (fun k => x (ix3 b p k)) (fun k => g (ix1 k)) (fun k l => w (ix2 k l)) n := by
  pointwise [val_main_v0, val_main_v1, val_main_v2, val_main_v3, val_main_v4, val_main_v5, val_main_v6, val_main_v7, val_main_v8, val_main_v9, val_main_v10, val_main_v11, val_main_v12, val_main_v13, val_main_cst, val_main_cst_0, val_main_cst_1]
  rfl

/-- The angle a position turns a pair of channels by. -/
def angle (p : Fin 2048) (i : Fin 64) : EReal := val_main_v39 (F := Ideal) (ix2 p i)

/-- The cosines of a position, one for each channel of a head. -/
def cosines (p : Fin 2048) (j : Fin 128) : EReal := Ideal.cos (angle p ⟨j.val % 64, by omega⟩)

/-- The sines of a position, negative for the first half of a head's channels. -/
def sines (p : Fin 2048) (j : Fin 128) : EReal :=
  if j.val < 64 then -Ideal.sin (angle p ⟨j.val % 64, by omega⟩) else Ideal.sin (angle p ⟨j.val % 64, by omega⟩)

/-- The number the queries are multiplied by. -/
theorem unit_eq : (unit : EReal) = (((Real.sqrt 128 * Real.log 2)⁻¹ : ℝ) : EReal) :=
  IdealRules.named_const.ideal_named_scalar _ _ _ _ rfl

/-- The word of a head's width. -/
theorem bits_128 : Ideal.ofBits .f32 1124073472#32 = ((128 : ℝ) : EReal) := by
  simp [Ideal.ofBits, Ideal.ieee, -EReal.coe_mul]; norm_num

/-- The word of the base of the logarithm. -/
theorem bits_2 : Ideal.ofBits .f32 1073741824#32 = ((2 : ℝ) : EReal) := by
  simp [Ideal.ofBits, Ideal.ieee, -EReal.coe_mul]; norm_num

/-- The number the queries are divided by. -/
theorem reference_unit (i : S_.Idx) : val_main_v26 (F := Ideal) i = ((Real.sqrt 128 * Real.log 2 : ℝ) : EReal) := by
  pointwise [val_main_v24, val_main_v25, val_main_v26, val_main_cst_2, val_main_cst_3]
  rw [bits_128, bits_2, Ideal.sqrt_coe, Ideal.log_coe, if_neg (by norm_num), if_neg (by norm_num), EReal.coe_mul]

/-- Dividing by that number is multiplying by its inverse. -/
theorem div_unit (a : EReal) (i : S_.Idx) : Ideal.div a (val_main_v26 (F := Ideal) i) = a * unit := by
  have h : Real.sqrt 128 * Real.log 2 ≠ 0 :=
    mul_ne_zero (Real.sqrt_pos.mpr (by norm_num)).ne' (Real.log_pos (by norm_num)).ne'
  rw [reference_unit, Ideal.div_coe h, one_div, unit_eq]

/-- The turned dilated queries, at an index. -/
theorem reference_turn_q (x : FVec Ideal S16x2048x2048 .f32) (g : FVec Ideal S2048 .f32) (w : FVec Ideal S2048x7168 .f32)
    (b : Fin 16) (p : Fin 2048) (j : Fin 768) :
    val_main_v58 (F := Ideal) x g w (ix3 b p j)
      = turn (fun n => val_main_v13 (F := Ideal) x g w (ix3 b p n)) (cosines p) (sines p) ⟨3072 + j.val, by omega⟩ := by
  pointwise [val_main_v40, val_main_v41, val_main_v42, val_main_v43, val_main_v44, val_main_v45, val_main_v46, val_main_v47, val_main_v48, val_main_v49, val_main_v50, val_main_v51, val_main_v52, val_main_v53, val_main_v54, val_main_v55, val_main_v56, val_main_v57, val_main_v58, val_main_v18]
  unfold turn cosines sines angle
  by_cases h : j.val % 128 < 64
  · rw [dif_pos h, if_pos (show (3072 + j.val) % 128 < 64 by omega), sub_eq_add_neg, ← mul_neg]
    refine congrArg₂ (· + ·) (congrArg₂ (· * ·) ?_ ?_) (congrArg₂ (· * ·) ?_ ?_)
    · exact congrArg (fun q => val_main_v13 (F := Ideal) x g w (ix3 b p q)) (Fin.ext (by dsimp only <;> omega))
    · exact congrArg (fun q => Ideal.cos (val_main_v39 (F := Ideal) (ix2 p q))) (Fin.ext (by dsimp only <;> omega))
    · exact congrArg (fun q => val_main_v13 (F := Ideal) x g w (ix3 b p q)) (Fin.ext (by dsimp only <;> omega))
    · exact congrArg (fun q => -Ideal.sin (val_main_v39 (F := Ideal) (ix2 p q))) (Fin.ext (by dsimp only <;> omega))
  · rw [dif_neg h, if_neg (show ¬(3072 + j.val) % 128 < 64 by omega)]
    refine congrArg₂ (· + ·) (congrArg₂ (· * ·) ?_ ?_) (congrArg₂ (· * ·) ?_ ?_)
    · exact congrArg (fun q => val_main_v13 (F := Ideal) x g w (ix3 b p q)) (Fin.ext (by dsimp only <;> omega))
    · exact congrArg (fun q => Ideal.cos (val_main_v39 (F := Ideal) (ix2 p q))) (Fin.ext (by dsimp only <;> omega))
    · exact congrArg (fun q => val_main_v13 (F := Ideal) x g w (ix3 b p q)) (Fin.ext (by dsimp only <;> omega))
    · exact congrArg (fun q => Ideal.sin (val_main_v39 (F := Ideal) (ix2 p q))) (Fin.ext (by dsimp only <;> omega))

/-- The turned dilated keys, at an index. -/
theorem reference_v75 (x : FVec Ideal S16x2048x2048 .f32) (g : FVec Ideal S2048 .f32) (w : FVec Ideal S2048x7168 .f32)
    (b : Fin 16) (p : Fin 2048) (j : Fin 768) :
    val_main_v75 (F := Ideal) x g w (ix3 b p j)
      = turn (fun n => val_main_v13 (F := Ideal) x g w (ix3 b p n)) (cosines p) (sines p) ⟨3840 + j.val, by omega⟩ := by
  pointwise [val_main_v40, val_main_v41, val_main_v42, val_main_v43, val_main_v61, val_main_v62, val_main_v63, val_main_v64, val_main_v65, val_main_v66, val_main_v67, val_main_v68, val_main_v69, val_main_v70, val_main_v71, val_main_v72, val_main_v73, val_main_v74, val_main_v75, val_main_v19]
  unfold turn cosines sines angle
  by_cases h : j.val % 128 < 64
  · rw [dif_pos h, if_pos (show (3840 + j.val) % 128 < 64 by omega), sub_eq_add_neg, ← mul_neg]
    refine congrArg₂ (· + ·) (congrArg₂ (· * ·) ?_ ?_) (congrArg₂ (· * ·) ?_ ?_)
    · exact congrArg (fun q => val_main_v13 (F := Ideal) x g w (ix3 b p q)) (Fin.ext (by dsimp only <;> omega))
    · exact congrArg (fun q => Ideal.cos (val_main_v39 (F := Ideal) (ix2 p q))) (Fin.ext (by dsimp only <;> omega))
    · exact congrArg (fun q => val_main_v13 (F := Ideal) x g w (ix3 b p q)) (Fin.ext (by dsimp only <;> omega))
    · exact congrArg (fun q => -Ideal.sin (val_main_v39 (F := Ideal) (ix2 p q))) (Fin.ext (by dsimp only <;> omega))
  · rw [dif_neg h, if_neg (show ¬(3840 + j.val) % 128 < 64 by omega)]
    refine congrArg₂ (· + ·) (congrArg₂ (· * ·) ?_ ?_) (congrArg₂ (· * ·) ?_ ?_)
    · exact congrArg (fun q => val_main_v13 (F := Ideal) x g w (ix3 b p q)) (Fin.ext (by dsimp only <;> omega))
    · exact congrArg (fun q => Ideal.cos (val_main_v39 (F := Ideal) (ix2 p q))) (Fin.ext (by dsimp only <;> omega))
    · exact congrArg (fun q => val_main_v13 (F := Ideal) x g w (ix3 b p q)) (Fin.ext (by dsimp only <;> omega))
    · exact congrArg (fun q => Ideal.sin (val_main_v39 (F := Ideal) (ix2 p q))) (Fin.ext (by dsimp only <;> omega))

/-- The neighbourhood queries, at an index. -/
theorem reference_v77 (x : FVec Ideal S16x2048x2048 .f32) (g : FVec Ideal S2048 .f32) (w : FVec Ideal S2048x7168 .f32)
    (b : Fin 16) (p : Fin 2048) (j : Fin 768) :
    val_main_v77 (F := Ideal) x g w (ix3 b p j) = val_main_v13 (F := Ideal) x g w (ix3 b p ⟨j.val, by omega⟩) * unit := by
  pointwise [val_main_v14, val_main_v76, val_main_v77]
  exact div_unit _ _

/-- The neighbourhood keys, at an index. -/
theorem reference_v15 (x : FVec Ideal S16x2048x2048 .f32) (g : FVec Ideal S2048 .f32) (w : FVec Ideal S2048x7168 .f32)
    (b : Fin 16) (p : Fin 2048) (j : Fin 768) :
    val_main_v15 (F := Ideal) x g w (ix3 b p j) = val_main_v13 (F := Ideal) x g w (ix3 b p ⟨768 + j.val, by omega⟩) := by
  pointwise [val_main_v15]

/-- The neighbourhood values, at an index. -/
theorem reference_v16 (x : FVec Ideal S16x2048x2048 .f32) (g : FVec Ideal S2048 .f32) (w : FVec Ideal S2048x7168 .f32)
    (b : Fin 16) (p : Fin 2048) (j : Fin 768) :
    val_main_v16 (F := Ideal) x g w (ix3 b p j) = val_main_v13 (F := Ideal) x g w (ix3 b p ⟨1536 + j.val, by omega⟩) := by
  pointwise [val_main_v16]

/-- The neighbourhood gate, at an index. -/
theorem reference_v78 (x : FVec Ideal S16x2048x2048 .f32) (g : FVec Ideal S2048 .f32) (w : FVec Ideal S2048x7168 .f32)
    (b : Fin 16) (p : Fin 2048) (j : Fin 768) :
    val_main_v78 (F := Ideal) x g w (ix3 b p j) = gate (val_main_v13 (F := Ideal) x g w (ix3 b p ⟨2304 + j.val, by omega⟩)) := by
  pointwise [val_main_v78, val_main_v17, val_main_call0_v0, val_main_call0_v1, val_main_call0_v2, val_main_call0_v3, val_main_call0_v4, val_main_call0_v5, val_main_call0_cst, val_main_call0_cst_0]
  unfold gate
  rw [zero_sub]

/-- The dilated queries, at an index. -/
theorem reference_v60 (x : FVec Ideal S16x2048x2048 .f32) (g : FVec Ideal S2048 .f32) (w : FVec Ideal S2048x7168 .f32)
    (b : Fin 16) (p : Fin 2048) (j : Fin 768) :
    val_main_v60 (F := Ideal) x g w (ix3 b p j)
      = turn (fun n => val_main_v13 (F := Ideal) x g w (ix3 b p n)) (cosines p) (sines p) ⟨3072 + j.val, by omega⟩ * unit := by
  pointwise [val_main_v59, val_main_v60]
  rw [reference_turn_q]
  exact div_unit _ _

/-- The dilated values, at an index. -/
theorem reference_v20 (x : FVec Ideal S16x2048x2048 .f32) (g : FVec Ideal S2048 .f32) (w : FVec Ideal S2048x7168 .f32)
    (b : Fin 16) (p : Fin 2048) (j : Fin 768) :
    val_main_v20 (F := Ideal) x g w (ix3 b p j) = val_main_v13 (F := Ideal) x g w (ix3 b p ⟨4608 + j.val, by omega⟩) := by
  pointwise [val_main_v20]

/-- The dilated gate, at an index. -/
theorem reference_v79 (x : FVec Ideal S16x2048x2048 .f32) (g : FVec Ideal S2048 .f32) (w : FVec Ideal S2048x7168 .f32)
    (b : Fin 16) (p : Fin 2048) (j : Fin 768) :
    val_main_v79 (F := Ideal) x g w (ix3 b p j) = gate (val_main_v13 (F := Ideal) x g w (ix3 b p ⟨5376 + j.val, by omega⟩)) := by
  pointwise [val_main_v79, val_main_v21, val_main_call1_v0, val_main_call1_v1, val_main_call1_v2, val_main_call1_v3, val_main_call1_v4, val_main_call1_v5, val_main_call1_cst, val_main_call1_cst_0]
  unfold gate
  rw [zero_sub]

/-- The memory queries, at an index. -/
theorem reference_v81 (x : FVec Ideal S16x2048x2048 .f32) (g : FVec Ideal S2048 .f32) (w : FVec Ideal S2048x7168 .f32)
    (b : Fin 16) (p : Fin 2048) (j : Fin 512) :
    val_main_v81 (F := Ideal) x g w (ix3 b p j) = val_main_v13 (F := Ideal) x g w (ix3 b p ⟨6144 + j.val, by omega⟩) * unit := by
  pointwise [val_main_v22, val_main_v80, val_main_v81]
  exact div_unit _ _

/-- The memory gate, at an index. -/
theorem reference_v82 (x : FVec Ideal S16x2048x2048 .f32) (g : FVec Ideal S2048 .f32) (w : FVec Ideal S2048x7168 .f32)
    (b : Fin 16) (p : Fin 2048) (j : Fin 512) :
    val_main_v82 (F := Ideal) x g w (ix3 b p j) = gate (val_main_v13 (F := Ideal) x g w (ix3 b p ⟨6656 + j.val, by omega⟩)) := by
  pointwise [val_main_v82, val_main_v23, val_main_call2_v0, val_main_call2_v1, val_main_call2_v2, val_main_call2_v3, val_main_call2_v4, val_main_call2_v5, val_main_call2_cst, val_main_call2_cst_0]
  unfold gate
  rw [zero_sub]

/-- The projected stream cut, turned, scaled and gated, at an index, piece by piece. -/
theorem pieces_v83 (x : FVec Ideal S16x2048x2048 .f32) (g : FVec Ideal S2048 .f32) (w : FVec Ideal S2048x7168 .f32)
    (b : Fin 16) (p : Fin 2048) (Z : Fin 7168 → EReal) (hZ : Z = fun n => val_main_v13 (F := Ideal) x g w (ix3 b p n)) (n : Fin 7168) :
    val_main_v83 (F := Ideal) x g w (ix3 b p n) =
      if h0 : n.val < 768 then Z ⟨n.val, by omega⟩ * unit
      else if h1 : n.val - 768 < 768 then Z ⟨768 + (n.val - 768), by omega⟩
      else if h2 : n.val - 768 - 768 < 768 then Z ⟨1536 + (n.val - 768 - 768), by omega⟩
      else if h3 : n.val - 768 - 768 - 768 < 768 then gate (Z ⟨2304 + (n.val - 768 - 768 - 768), by omega⟩)
      else if h4 : n.val - 768 - 768 - 768 - 768 < 768 then turn Z (cosines p) (sines p) ⟨3072 + (n.val - 768 - 768 - 768 - 768), by omega⟩ * unit
      else if h5 : n.val - 768 - 768 - 768 - 768 - 768 < 768 then turn Z (cosines p) (sines p) ⟨3840 + (n.val - 768 - 768 - 768 - 768 - 768), by omega⟩
      else if h6 : n.val - 768 - 768 - 768 - 768 - 768 - 768 < 768 then Z ⟨4608 + (n.val - 768 - 768 - 768 - 768 - 768 - 768), by omega⟩
      else if h7 : n.val - 768 - 768 - 768 - 768 - 768 - 768 - 768 < 768 then gate (Z ⟨5376 + (n.val - 768 - 768 - 768 - 768 - 768 - 768 - 768), by omega⟩)
      else if h8 : n.val - 768 - 768 - 768 - 768 - 768 - 768 - 768 - 768 < 512 then Z ⟨6144 + (n.val - 768 - 768 - 768 - 768 - 768 - 768 - 768 - 768), by omega⟩ * unit
      else gate (Z ⟨6656 + (n.val - 768 - 768 - 768 - 768 - 768 - 768 - 768 - 768 - 512), by omega⟩) := by
  pointwise [val_main_v83]
  simp only [reference_v77, reference_v15, reference_v16, reference_v78, reference_v60, reference_v75, reference_v20,
    reference_v79, reference_v81, reference_v82]
  subst hZ
  rfl

/-- The projected stream cut, turned, scaled and gated, at an index. -/
theorem reference_v83 (x : FVec Ideal S16x2048x2048 .f32) (g : FVec Ideal S2048 .f32) (w : FVec Ideal S2048x7168 .f32)
    (b : Fin 16) (p : Fin 2048) (n : Fin 7168) :
    val_main_v83 (F := Ideal) x g w (ix3 b p n)
      = cell (fun n => val_main_v13 (F := Ideal) x g w (ix3 b p n)) (cosines p) (sines p) unit n := by
  obtain ⟨Z, hZ⟩ : ∃ Z : Fin 7168 → EReal, Z = fun n => val_main_v13 (F := Ideal) x g w (ix3 b p n) := ⟨_, rfl⟩
  rw [pieces_v83 x g w b p Z hZ n, ← hZ]
  unfold cell
  dsimp only
  by_cases h0 : n.val < 768
  · rw [dif_pos (by omega), if_pos (by omega)]
  by_cases h1 : n.val < 1536
  · rw [dif_neg (by omega), dif_pos (by omega), if_neg (by omega), if_pos (by omega)]
    refine congrArg (fun q => Z q) (Fin.ext (by dsimp only <;> omega))
  by_cases h2 : n.val < 2304
  · rw [dif_neg (by omega), dif_neg (by omega), dif_pos (by omega), if_neg (by omega), if_pos (by omega)]
    refine congrArg (fun q => Z q) (Fin.ext (by dsimp only <;> omega))
  by_cases h3 : n.val < 3072
  · rw [dif_neg (by omega), dif_neg (by omega), dif_neg (by omega), dif_pos (by omega), if_neg (by omega), if_neg (by omega), if_pos (by omega)]
    refine congrArg (fun q => gate (Z q)) (Fin.ext (by dsimp only <;> omega))
  by_cases h4 : n.val < 3840
  · rw [dif_neg (by omega), dif_neg (by omega), dif_neg (by omega), dif_neg (by omega), dif_pos (by omega), if_neg (by omega), if_neg (by omega), if_neg (by omega), if_pos (by omega)]
    refine congrArg (fun q => turn Z (cosines p) (sines p) q * unit) (Fin.ext (by dsimp only <;> omega))
  by_cases h5 : n.val < 4608
  · rw [dif_neg (by omega), dif_neg (by omega), dif_neg (by omega), dif_neg (by omega), dif_neg (by omega), dif_pos (by omega), if_neg (by omega), if_neg (by omega), if_neg (by omega), if_neg (by omega), if_pos (by omega)]
    refine congrArg (fun q => turn Z (cosines p) (sines p) q) (Fin.ext (by dsimp only <;> omega))
  by_cases h6 : n.val < 5376
  · rw [dif_neg (by omega), dif_neg (by omega), dif_neg (by omega), dif_neg (by omega), dif_neg (by omega), dif_neg (by omega), dif_pos (by omega), if_neg (by omega), if_neg (by omega), if_neg (by omega), if_neg (by omega), if_neg (by omega), if_pos (by omega)]
    refine congrArg (fun q => Z q) (Fin.ext (by dsimp only <;> omega))
  by_cases h7 : n.val < 6144
  · rw [dif_neg (by omega), dif_neg (by omega), dif_neg (by omega), dif_neg (by omega), dif_neg (by omega), dif_neg (by omega), dif_neg (by omega), dif_pos (by omega), if_neg (by omega), if_neg (by omega), if_neg (by omega), if_neg (by omega), if_neg (by omega), if_neg (by omega), if_pos (by omega)]
    refine congrArg (fun q => gate (Z q)) (Fin.ext (by dsimp only <;> omega))
  by_cases h8 : n.val < 6656
  · rw [dif_neg (by omega), dif_neg (by omega), dif_neg (by omega), dif_neg (by omega), dif_neg (by omega), dif_neg (by omega), dif_neg (by omega), dif_neg (by omega), dif_pos (by omega), if_neg (by omega), if_neg (by omega), if_neg (by omega), if_neg (by omega), if_neg (by omega), if_neg (by omega), if_neg (by omega), if_pos (by omega)]
    refine congrArg (fun q => Z q * unit) (Fin.ext (by dsimp only <;> omega))
  rw [dif_neg (by omega), dif_neg (by omega), dif_neg (by omega), dif_neg (by omega), dif_neg (by omega), dif_neg (by omega), dif_neg (by omega), dif_neg (by omega), dif_neg (by omega), if_neg (by omega), if_neg (by omega), if_neg (by omega), if_neg (by omega), if_neg (by omega), if_neg (by omega), if_neg (by omega), if_neg (by omega)]
  refine congrArg (fun q => gate (Z q)) (Fin.ext (by dsimp only <;> omega))

/-- The dilated heads' queries, keys and values, at an index, piece by piece. -/
theorem pieces_v84 (x : FVec Ideal S16x2048x2048 .f32) (g : FVec Ideal S2048 .f32) (w : FVec Ideal S2048x7168 .f32)
    (b : Fin 16) (p : Fin 2048) (Z : Fin 7168 → EReal) (hZ : Z = fun n => val_main_v13 (F := Ideal) x g w (ix3 b p n)) (n : Fin 2304) :
    val_main_v84 (F := Ideal) x g w (ix3 b p n) =
      if h0 : n.val < 768 then turn Z (cosines p) (sines p) ⟨3072 + (n.val), by omega⟩ * unit
      else if h1 : n.val - 768 < 768 then turn Z (cosines p) (sines p) ⟨3840 + (n.val - 768), by omega⟩
      else Z ⟨4608 + (n.val - 768 - 768), by omega⟩ := by
  pointwise [val_main_v84]
  simp only [reference_v60, reference_v75, reference_v20]
  subst hZ
  rfl

/-- The dilated heads' queries, keys and values, at an index. -/
theorem reference_v84 (x : FVec Ideal S16x2048x2048 .f32) (g : FVec Ideal S2048 .f32) (w : FVec Ideal S2048x7168 .f32)
    (b : Fin 16) (p : Fin 2048) (n : Fin 2304) :
    val_main_v84 (F := Ideal) x g w (ix3 b p n)
      = cell (fun n => val_main_v13 (F := Ideal) x g w (ix3 b p n)) (cosines p) (sines p) unit ⟨3072 + n.val, by omega⟩ := by
  obtain ⟨Z, hZ⟩ : ∃ Z : Fin 7168 → EReal, Z = fun n => val_main_v13 (F := Ideal) x g w (ix3 b p n) := ⟨_, rfl⟩
  rw [pieces_v84 x g w b p Z hZ n, ← hZ]
  unfold cell
  dsimp only
  by_cases h0 : n.val < 768
  · rw [dif_pos (by omega), if_neg (by omega), if_neg (by omega), if_neg (by omega), if_pos (by omega)]
  by_cases h1 : n.val < 1536
  · rw [dif_neg (by omega), dif_pos (by omega), if_neg (by omega), if_neg (by omega), if_neg (by omega), if_neg (by omega), if_pos (by omega)]
    refine congrArg (fun q => turn Z (cosines p) (sines p) q) (Fin.ext (by dsimp only <;> omega))
  rw [dif_neg (by omega), dif_neg (by omega), if_neg (by omega), if_neg (by omega), if_neg (by omega), if_neg (by omega), if_neg (by omega), if_pos (by omega)]
  refine congrArg (fun q => Z q) (Fin.ext (by dsimp only <;> omega))

/-- The first result reads the cut stream at the row's batch and position. -/
theorem reference_rows (x : FVec Ideal S16x2048x2048 .f32) (g : FVec Ideal S2048 .f32) (w : FVec Ideal S2048x7168 .f32)
    (R : Fin 32768) (n : Fin 7168) (b : Fin 16) (p : Fin 2048) (h : R.val = b.val * 2048 + p.val) :
    val_main_v87 (F := Ideal) x g w (ix2 R n) = val_main_v83 (F := Ideal) x g w (ix3 b p n) := by
  rw [val_main_v87_apply, val_main_v86_apply]
  generalize val_main_v83 (F := Ideal) x g w = y
  refine congrArg y ((eq_ix3 (n0 := 16) (n1 := 2048) (n2 := 7168) _).trans ?_)
  refine congr (congr (congrArg ix3 (Fin.ext ?_)) (Fin.ext ?_)) (Fin.ext ?_)
  · show (R.val * 7168 + n.val) / 14680064 = b.val
    omega
  · show (R.val * 7168 + n.val) / 7168 % 2048 = p.val
    omega
  · show (R.val * 7168 + n.val) % 7168 = n.val
    omega

/-- The first result, at an index. -/
theorem reference_v87 (x : FVec Ideal S16x2048x2048 .f32) (g : FVec Ideal S2048 .f32) (w : FVec Ideal S2048x7168 .f32)
    (R : Fin 32768) (n : Fin 7168) (b : Fin 16) (p : Fin 2048) (h : R.val = b.val * 2048 + p.val) :
    val_main_v87 (F := Ideal) x g w (ix2 R n)
      = cell (row (fun k => x (ix3 b p k)) (fun k => g (ix1 k)) fun k l => w (ix2 k l)) (cosines p) (sines p) unit n := by
  rw [reference_rows x g w R n b p h, reference_v83]
  simp only [reference_row]

/-- The second result reads the dilated heads at the position with its residue. -/
theorem reference_residues (x : FVec Ideal S16x2048x2048 .f32) (g : FVec Ideal S2048 .f32) (w : FVec Ideal S2048x7168 .f32)
    (b : Fin 16) (s : Fin 4) (q : Fin 512) (n : Fin 2304) (p : Fin 2048) (h : p.val = 4 * q.val + s.val) :
    val_main_v89 (F := Ideal) x g w (ix4 b s q n) = val_main_v84 (F := Ideal) x g w (ix3 b p n) := by
  rw [val_main_v89_apply, val_main_v88_apply, val_main_v85_apply]
  generalize val_main_v84 (F := Ideal) x g w = y
  refine congrArg y ((eq_ix3 (n0 := 16) (n1 := 2048) (n2 := 2304) _).trans ?_)
  refine congr (congr (congrArg ix3 (Fin.ext ?_)) (Fin.ext ?_)) (Fin.ext ?_)
  · show (((b.val * 512 + q.val) * 4 + s.val) * 2304 + n.val) / 4718592 = b.val
    omega
  · show (((b.val * 512 + q.val) * 4 + s.val) * 2304 + n.val) / 2304 % 2048 = p.val
    omega
  · show (((b.val * 512 + q.val) * 4 + s.val) * 2304 + n.val) % 2304 = n.val
    omega

/-- The second result, at an index. -/
theorem reference_v89 (x : FVec Ideal S16x2048x2048 .f32) (g : FVec Ideal S2048 .f32) (w : FVec Ideal S2048x7168 .f32)
    (b : Fin 16) (s : Fin 4) (q : Fin 512) (n : Fin 2304) (p : Fin 2048) (h : p.val = 4 * q.val + s.val) :
    val_main_v89 (F := Ideal) x g w (ix4 b s q n)
      = cell (row (fun k => x (ix3 b p k)) (fun k => g (ix1 k)) fun k l => w (ix2 k l)) (cosines p) (sines p) unit
          ⟨3072 + n.val, by omega⟩ := by
  rw [reference_residues x g w b s q n p h, reference_v84]
  simp only [reference_row]
-- ==== Proof.InValue.lean ====
module

public import proofs.«01_k».proof.Proof.InStream
public import proofs.«01_k».proof.Proof.InRefAt
public import Idealize.ShloMosaic.Lib.Pointwise
public import Idealize.ShloMosaic.Lib.Claim
public import Idealize.ShloMosaic.Lib.Pipeline.ValueKit

@[expose] public section

set_option maxRecDepth 16384

noncomputable section

namespace Cert.InValue

open Cert.InProjIdeal Cert.InProjIdeal.Gen
open Idealize.ShloMosaic Idealize.ShloMosaic.TcCoe Idealize.SL.Sem
open Idealize.ShloMosaic.Pipeline (Dat)

variable (m : (ℓ : Loc nD τ sig) → Buf (Elt Ideal) ℓ)

/-- Which block each window holds at a grid point. -/
theorem places : ∀ t : Fin cfg0.N, win0_0.index t = ![t.val, 0] ∧ win0_1.index t = ![0, 0]
    ∧ win0_2.index t = ![0, 0, 0] ∧ win0_3.index t = ![t.val % 4, 0] ∧ win0_4.index t = ![t.val % 4, 0]
    ∧ win0_5.index t = ![t.val, 0] ∧ win0_6.index t = ![t.val / 4, 0, t.val % 4, 0] :=
  (by decide +kernel : ∀ t : Fin grid0.N, _)

/-- The rows of the stream a grid point holds. -/
theorem read0 (c : Dev nD) (t : Fin cfg0.N) (r : Fin 512) (k : Fin 2048) (h : t.val < 64) :
    (iblk m c 0 t : FVec Ideal S512x2048 .f32) (ix2 r k)
      = (m ((c : Thread nD τ).loc main_arg0) : FVec Ideal S16x2048x2048 .f32) (ix3 ⟨(t.val * 512 + r.val) / 2048, by omega⟩ ⟨(t.val * 512 + r.val) % 2048, by omega⟩ k) := by
  blk_simp [iblk, places t]
  entry_read
  pointwise
  blk_ext [places t]

/-- The scale a grid point holds is the scale. -/
theorem read1 (c : Dev nD) (t : Fin cfg0.N) (k : Fin 2048) :
    (iblk m c 1 t : FVec Ideal S1x2048 .f32) (ix2 0 k)
      = (m ((c : Thread nD τ).loc main_arg1) : FVec Ideal S2048 .f32) (ix1 k) := by
  blk_simp [iblk, places t]
  entry_read
  pointwise
  blk_ext [places t]

/-- The weights a grid point holds are the weights. -/
theorem read2 (c : Dev nD) (t : Fin cfg0.N) (k : Fin 2048) (n : Fin 7168) :
    (iblk m c 2 t : FVec Ideal S1x2048x7168 .bf16) (ix3 0 k n)
      = (m ((c : Thread nD τ).loc main_arg2) : FVec Ideal S2048x7168 .f32) (ix2 k n) := by
  blk_simp [iblk, places t]
  entry_read
  pointwise
  blk_ext [places t]

/-- The cosines a grid point holds. -/
theorem read3 (c : Dev nD) (t : Fin cfg0.N) (r : Fin 512) (j : Fin 128) :
    (iblk m c 3 t : FVec Ideal S512x128 .f32) (ix2 r j) = cosines ⟨t.val % 4 * 512 + r.val, by omega⟩ j := by
  blk_simp [iblk, places t]
  entry_read
  rw [show ((View.whole main_v15).slice (win0_3.rect t)).emb (ix2 r j)
      = (ix2 (⟨t.val % 4 * 512 + r.val, by omega⟩ : Fin 2048) j : S2048x128.Idx) from by blk_ext [places t]]
  pointwise
  unfold cosines angle
  pointwise [Cert.InRefIdeal.Read.val_main_v27, Cert.InRefIdeal.Read.val_main_v28, Cert.InRefIdeal.Read.val_main_v29, Cert.InRefIdeal.Read.val_main_v30, Cert.InRefIdeal.Read.val_main_v31, Cert.InRefIdeal.Read.val_main_v32, Cert.InRefIdeal.Read.val_main_v33, Cert.InRefIdeal.Read.val_main_v34, Cert.InRefIdeal.Read.val_main_v35, Cert.InRefIdeal.Read.val_main_v36, Cert.InRefIdeal.Read.val_main_v37, Cert.InRefIdeal.Read.val_main_v38, Cert.InRefIdeal.Read.val_main_v39, Cert.InRefIdeal.Read.val_main_cst_4, Cert.InRefIdeal.Read.val_main_cst_5]
  by_cases h : j.val < 64
  · rw [dif_pos h, Nat.mod_eq_of_lt h]
  · rw [dif_neg h, show j.val % 64 = j.val - 64 by omega]

/-- The sines a grid point holds. -/
theorem read4 (c : Dev nD) (t : Fin cfg0.N) (r : Fin 512) (j : Fin 128) :
    (iblk m c 4 t : FVec Ideal S512x128 .f32) (ix2 r j) = sines ⟨t.val % 4 * 512 + r.val, by omega⟩ j := by
  blk_simp [iblk, places t]
  entry_read
  rw [show ((View.whole main_v17).slice (win0_4.rect t)).emb (ix2 r j)
      = (ix2 (⟨t.val % 4 * 512 + r.val, by omega⟩ : Fin 2048) j : S2048x128.Idx) from by blk_ext [places t]]
  pointwise
  unfold sines angle
  pointwise [Cert.InRefIdeal.Read.val_main_v27, Cert.InRefIdeal.Read.val_main_v28, Cert.InRefIdeal.Read.val_main_v29, Cert.InRefIdeal.Read.val_main_v30, Cert.InRefIdeal.Read.val_main_v31, Cert.InRefIdeal.Read.val_main_v32, Cert.InRefIdeal.Read.val_main_v33, Cert.InRefIdeal.Read.val_main_v34, Cert.InRefIdeal.Read.val_main_v35, Cert.InRefIdeal.Read.val_main_v36, Cert.InRefIdeal.Read.val_main_v37, Cert.InRefIdeal.Read.val_main_v38, Cert.InRefIdeal.Read.val_main_v39, Cert.InRefIdeal.Read.val_main_cst_4, Cert.InRefIdeal.Read.val_main_cst_5]
  by_cases h : j.val < 64
  · rw [dif_pos h, if_pos h, Nat.mod_eq_of_lt h]
  · rw [dif_neg h, if_neg h, show j.val % 64 = j.val - 64 by omega]

/-- What the reference's first result is. -/
abbrev want5 (c : Dev nD) : FVec Ideal S32768x7168 .bf16 :=
  Cert.InRefIdeal.Read.val_main_v87 (F := Ideal) (m ((c : Thread nD τ).loc main_arg0)) (m ((c : Thread nD τ).loc main_arg1))
    (m ((c : Thread nD τ).loc main_arg2))

/-- What the reference's second result is. -/
abbrev want6 (c : Dev nD) : FVec Ideal S16x4x512x2304 .bf16 :=
  Cert.InRefIdeal.Read.val_main_v89 (F := Ideal) (m ((c : Thread nD τ).loc main_arg0)) (m ((c : Thread nD τ).loc main_arg1))
    (m ((c : Thread nD τ).loc main_arg2))

/-- What a grid point stores for a row is the row's projection, cut, turned, scaled and gated. -/
theorem blockCell_eq (c : Dev nD) (t : Fin cfg0.N) (h : t.val < 64) (r : Fin 512) (n : Fin 7168) (b : Fin 16) (p : Fin 2048)
    (hb : b.val = t.val / 4) (hp : p.val = t.val % 4 * 512 + r.val) :
    blockCell m c t r n
      = cell (row (fun k => (m ((c : Thread nD τ).loc main_arg0) : FVec Ideal S16x2048x2048 .f32) (ix3 b p k))
            (fun k => (m ((c : Thread nD τ).loc main_arg1) : FVec Ideal S2048 .f32) (ix1 k))
            fun k l => (m ((c : Thread nD τ).loc main_arg2) : FVec Ideal S2048x7168 .f32) (ix2 k l))
          (cosines p) (sines p) unit n := by
  have h0 := fun k => read0 m c t r k h
  have h1 := fun k => read1 m c t k
  have h2 := fun k l => read2 m c t k l
  have h3 := fun j => read3 m c t r j
  have h4 := fun j => read4 m c t r j
  have eb : b = ⟨(t.val * 512 + r.val) / 2048, by omega⟩ := Fin.ext (by dsimp only; omega)
  have ep : p = ⟨(t.val * 512 + r.val) % 2048, by omega⟩ := Fin.ext (by dsimp only; omega)
  have ep' : p = ⟨t.val % 4 * 512 + r.val, by omega⟩ := Fin.ext hp
  rw [← eb, ← ep] at h0
  rw [← ep'] at h3 h4
  unfold blockCell
  rw [funext h0, funext h1, funext fun k => funext (h2 k), funext h3, funext h4]

/-- What a grid point stores in the first result is what the reference has there. -/
theorem stored5 (c : Dev nD) (t : Fin cfg0.N) (y : S512x7168.Idx) :
    (outsAt0 m c t).1 y = want5 m c (((cfg0.win 5).blk t).view.emb y) := by
  have ht : t.val < 64 := lt_of_lt_of_eq t.isLt N_0
  have hy : ((cfg0.win 5).blk t).view.emb y
      = ix2 (⟨t.val * 512 + (y 0).val, by have : (y 0).val < 512 := (y 0).isLt; omega⟩ : Fin 32768) (y 1) := by
    blk_ext [places t]
  have h0 : (y 0).val < 512 := (y 0).isLt
  refine (congrArg _ (eq_ix2 y)).trans ((block5 m c t (y 0) (y 1)).trans
    (Eq.trans (blockCell_eq m c t ht (y 0) (y 1) ⟨t.val / 4, by omega⟩ ⟨t.val % 4 * 512 + (y 0).val, by omega⟩ rfl rfl)
      ((congrArg (want5 m c) hy).trans (reference_v87 _ _ _ _ _ ⟨t.val / 4, by omega⟩ ⟨t.val % 4 * 512 + (y 0).val, by omega⟩ ?_)).symm))
  show t.val * 512 + (y 0).val = t.val / 4 * 2048 + (t.val % 4 * 512 + (y 0).val)
  omega

/-- What a grid point stores in the second result is what the reference has there. -/
theorem stored6 (c : Dev nD) (t : Fin cfg0.N) (y : S1x4x128x2304.Idx) :
    (outsAt0 m c t).2 y = want6 m c (((cfg0.win 6).blk t).view.emb y) := by
  have ht : t.val < 64 := lt_of_lt_of_eq t.isLt N_0
  have h0 : (y 0).val < 1 := (y 0).isLt
  have h1 : (y 1).val < 4 := (y 1).isLt
  have h2 : (y 2).val < 128 := (y 2).isLt
  have hy : ((cfg0.win 6).blk t).view.emb y
      = ix4 (⟨t.val / 4, by omega⟩ : Fin 16) (y 1) (⟨t.val % 4 * 128 + (y 2).val, by omega⟩ : Fin 512) (y 3) := by
    blk_ext [places t]
  have hy0 : y = ix4 (0 : Fin 1) (y 1) (y 2) (y 3) :=
    (eq_ix4 y).trans (congrArg (fun q => ix4 q (y 1) (y 2) (y 3)) (Fin.ext (by show (y 0).val = 0; omega)))
  refine (congrArg _ hy0).trans ((block6 m c t (y 1) (y 2) (y 3)).trans
    (Eq.trans (blockCell_eq m c t ht _ _ ⟨t.val / 4, by omega⟩ ⟨t.val % 4 * 512 + ((y 1).val + 4 * (y 2).val), by omega⟩ rfl rfl)
      ((congrArg (want6 m c) hy).trans (reference_v89 _ _ _ _ _ _ _ ⟨t.val % 4 * 512 + ((y 1).val + 4 * (y 2).val), by omega⟩ ?_)).symm))
  show t.val % 4 * 512 + ((y 1).val + 4 * (y 2).val) = 4 * (t.val % 4 * 128 + (y 2).val) + (y 1).val
  omega

/-- The first result after the last grid point. -/
theorem final5 (c : Dev nD) : (dats m 0 c).arrAt 5 cfg0.N = want5 m c := by
  refine (dats m 0 c).arrAt_eq_of_covers 5 _ (by decide +kernel) fun t _ y => ?_
  blk_simp
  rw [after0_5]
  exact stored5 m c t y

/-- The second result after the last grid point. -/
theorem final6 (c : Dev nD) : (dats m 0 c).arrAt 6 cfg0.N = want6 m c := by
  refine (dats m 0 c).arrAt_eq_of_covers 6 _ (by decide +kernel) fun t _ y => ?_
  blk_simp
  rw [after0_6]
  exact stored6 m c t y
-- ==== Proof.MidValue.lean ====
/- The output projection of a layer before the last: after the last grid point both results are the reference's. -/
module

public import proofs.«01_k».proof.Proof.Gen.MidProjIdeal.Value
public import proofs.«01_k».proof.Proof.Gen.MidRefIdeal.Read
public import proofs.«01_k».proof.Proof.OutValue
public import Idealize.ShloMosaic.Lib.Pointwise
public import Idealize.ShloMosaic.Lib.Claim
public import Idealize.ShloMosaic.Lib.Pipeline.ValueKit

@[expose] public section

set_option maxRecDepth 16384

noncomputable section

namespace Cert.MidValue

open Cert.MidProjIdeal Cert.MidProjIdeal.Gen Cert.MidRefIdeal.Read
open Idealize.ShloMosaic Idealize.ShloMosaic.TcCoe Idealize.SL.Sem
open Idealize.ShloMosaic.Pipeline (Dat)

variable (m : (ℓ : Loc nD τ sig) → Buf (Elt Ideal) ℓ)

open Cert.OutValue (mixed sum_groups)

/-- The reference's first result over the kernel's argument arrays. -/
abbrev want7 (c : Dev nD) : FVec Ideal S32768x2048 .f32 :=
  val_main_v4 (F := Ideal) (m ((c : Thread nD τ).loc main_arg0)) (m ((c : Thread nD τ).loc main_arg1)) (m ((c : Thread nD τ).loc main_arg2)) (m ((c : Thread nD τ).loc main_arg3)) (m ((c : Thread nD τ).loc main_arg4))

/-- The reference's second result over the kernel's argument arrays. -/
abbrev want8 (c : Dev nD) : FVec Ideal S1x2048x7168 .bf16 :=
  val_main_v6 (F := Ideal) (m ((c : Thread nD τ).loc main_arg6))

/-- Which block each window holds at a grid point. -/
theorem places : ∀ t : Fin cfg0.N, win0_0.index t = ![t.val, 0]
    ∧ win0_1.index t = ![t.val, 0]
    ∧ win0_2.index t = ![t.val, 0]
    ∧ win0_3.index t = ![t.val, 0]
    ∧ win0_4.index t = ![0, 0]
    ∧ win0_5.index t = ![0, 0]
    ∧ win0_6.index t = ![1, t.val, 0]
    ∧ win0_7.index t = ![t.val, 0]
    ∧ win0_8.index t = ![0, t.val, 0] :=
  (by decide +kernel : ∀ t : Fin grid0.N, _)

/-- What the body stores for the stream, at an index of its block. -/
theorem block7 (x : FVec Ideal S1024x2048 .f32) (a b : FVec Ideal S1024x768 .bf16) (d : FVec Ideal S1024x512 .bf16)
    (w : FVec Ideal S2048x2048 .bf16) (g : FVec Ideal S1x2048 .f32) (u : FVec Ideal S1x64x7168 .f32) (r : Fin 1024) (n : Fin 2048) :
    (out0_7 (F := Ideal) x a b d w g u : FVec Ideal S1024x2048 .f32) (ix2 r n)
      = mixed (fun k => x (ix2 r k)) (fun k => a (ix2 r k)) (fun k => b (ix2 r k)) (fun k => d (ix2 r k))
          (fun k l => w (ix2 k l)) n := by
  frame_out
  pointwise [k0_pay2]
  rfl

/-- What the body stores for the weights of the next layer, at an index of its block. -/
theorem block8 (x : FVec Ideal S1024x2048 .f32) (a b : FVec Ideal S1024x768 .bf16) (d : FVec Ideal S1024x512 .bf16)
    (w : FVec Ideal S2048x2048 .bf16) (g : FVec Ideal S1x2048 .f32) (u : FVec Ideal S1x64x7168 .f32) (r : Fin 64) (n : Fin 7168) :
    (out0_8 (F := Ideal) x a b d w g u : FVec Ideal S1x64x7168 .bf16) (ix3 0 r n) = u (ix3 0 r n) := by
  frame_out
  pointwise [k0_pay1]

/-- The reference's first result, at an index. -/
theorem reference_at (x : FVec Ideal S16x2048x2048 .f32) (a b : FVec Ideal S16x2048x768 .bf16)
    (d : FVec Ideal S16x2048x512 .bf16) (w : FVec Ideal S2048x2048 .f32) (R : Fin 32768) (n : Fin 2048) :
    val_main_v4 (F := Ideal) x a b d w (ix2 R n)
      = mixed (fun k => x (ix3 ⟨R.val / 2048, by omega⟩ ⟨R.val % 2048, by omega⟩ k))
          (fun k => a (ix3 ⟨R.val / 2048, by omega⟩ ⟨R.val % 2048, by omega⟩ k))
          (fun k => b (ix3 ⟨R.val / 2048, by omega⟩ ⟨R.val % 2048, by omega⟩ k))
          (fun k => d (ix3 ⟨R.val / 2048, by omega⟩ ⟨R.val % 2048, by omega⟩ k)) (fun k l => w (ix2 k l)) n := by
  pointwise [val_main_v0, val_main_v1, val_main_v2, val_main_v3, val_main_v4]
  rw [sum_groups]
  unfold mixed
  congr 2

/-- The reference's second result, at an index. -/
theorem reference_weights (u : FVec Ideal S4x2048x7168 .f32) (r : Fin 2048) (n : Fin 7168) :
    val_main_v6 (F := Ideal) u (ix3 0 r n) = u (ix3 1 r n) := by
  pointwise [val_main_v5, val_main_v6]

/-- The residual block of a grid point, read at an index. -/
theorem read0 (c : Dev nD) (t : Fin cfg0.N) (r : Fin 1024) (k : Fin 2048) (h : t.val < 32) :
    (iblk m c 0 t : FVec Ideal S1024x2048 .f32) (ix2 r k)
      = (m ((c : Thread nD τ).loc main_arg0) : FVec Ideal S16x2048x2048 .f32) (ix3 ⟨(t.val * 1024 + r.val) / 2048, by omega⟩ ⟨(t.val * 1024 + r.val) % 2048, by omega⟩ k) := by
  blk_simp [iblk, places t]
  entry_read
  pointwise
  blk_ext [places t]

/-- The neighbourhood block of a grid point, read at an index. -/
theorem read1 (c : Dev nD) (t : Fin cfg0.N) (r : Fin 1024) (k : Fin 768) (h : t.val < 32) :
    (iblk m c 1 t : FVec Ideal S1024x768 .bf16) (ix2 r k)
      = (m ((c : Thread nD τ).loc main_arg1) : FVec Ideal S16x2048x768 .bf16) (ix3 ⟨(t.val * 1024 + r.val) / 2048, by omega⟩ ⟨(t.val * 1024 + r.val) % 2048, by omega⟩ k) := by
  blk_simp [iblk, places t]
  entry_read
  pointwise
  blk_ext [places t]

/-- The dilated block of a grid point, read at an index. -/
theorem read2 (c : Dev nD) (t : Fin cfg0.N) (r : Fin 1024) (k : Fin 768) (h : t.val < 32) :
    (iblk m c 2 t : FVec Ideal S1024x768 .bf16) (ix2 r k)
      = (m ((c : Thread nD τ).loc main_arg2) : FVec Ideal S16x2048x768 .bf16) (ix3 ⟨(t.val * 1024 + r.val) / 2048, by omega⟩ ⟨(t.val * 1024 + r.val) % 2048, by omega⟩ k) := by
  blk_simp [iblk, places t]
  entry_read
  pointwise
  blk_ext [places t]

/-- The memory block of a grid point, read at an index. -/
theorem read3 (c : Dev nD) (t : Fin cfg0.N) (r : Fin 1024) (k : Fin 512) (h : t.val < 32) :
    (iblk m c 3 t : FVec Ideal S1024x512 .bf16) (ix2 r k)
      = (m ((c : Thread nD τ).loc main_arg3) : FVec Ideal S16x2048x512 .bf16) (ix3 ⟨(t.val * 1024 + r.val) / 2048, by omega⟩ ⟨(t.val * 1024 + r.val) % 2048, by omega⟩ k) := by
  blk_simp [iblk, places t]
  entry_read
  pointwise
  blk_ext [places t]

/-- The weights a grid point holds are the weights. -/
theorem read4 (c : Dev nD) (t : Fin cfg0.N) (k n : Fin 2048) :
    (iblk m c 4 t : FVec Ideal S2048x2048 .bf16) (ix2 k n)
      = (m ((c : Thread nD τ).loc main_arg4) : FVec Ideal S2048x2048 .f32) (ix2 k n) := by
  blk_simp [iblk, places t]
  entry_read
  pointwise
  blk_ext [places t]

/-- A grid point's rows of the next layer's weights. -/
theorem read6 (c : Dev nD) (t : Fin cfg0.N) (r : Fin 64) (n : Fin 7168) (h : t.val < 32) :
    (iblk m c 6 t : FVec Ideal S1x64x7168 .f32) (ix3 0 r n)
      = (m ((c : Thread nD τ).loc main_arg6) : FVec Ideal S4x2048x7168 .f32) (ix3 1 ⟨t.val * 64 + r.val, by omega⟩ n) := by
  blk_simp [iblk, places t]
  entry_read
  pointwise
  blk_ext [places t]

/-- What a grid point stores of the stream is the reference's. -/
theorem stored7 (c : Dev nD) (t : Fin cfg0.N) (y : S1024x2048.Idx) :
    out0_7 (iblk m c 0 t) (iblk m c 1 t) (iblk m c 2 t) (iblk m c 3 t) (iblk m c 4 t) (iblk m c 5 t) (iblk m c 6 t) y = want7 m c (((cfg0.win 7).blk t).view.emb y) := by
  have ht : t.val < 32 := lt_of_lt_of_eq t.isLt N_0
  have hy : ((cfg0.win 7).blk t).view.emb y
      = ix2 (⟨t.val * 1024 + (y 0).val, by have : (y 0).val < 1024 := (y 0).isLt; omega⟩ : Fin 32768) (y 1) := by
    blk_ext [places t]
  refine (congrArg _ (eq_ix2 y)).trans ((block7 _ _ _ _ _ _ _ (y 0) (y 1)).trans (Eq.trans ?_
    ((congrArg (want7 m c) hy).trans (reference_at _ _ _ _ _ _ _)).symm))
  have h0 := fun k => read0 m c t (y 0) k ht
  have h1 := fun k => read1 m c t (y 0) k ht
  have h2 := fun k => read2 m c t (y 0) k ht
  have h3 := fun k => read3 m c t (y 0) k ht
  have h4 := fun k n => read4 m c t k n
  rw [funext h0, funext h1, funext h2, funext h3, funext fun k => funext (h4 k)]

/-- What a grid point stores of the next layer's weights is the reference's. -/
theorem stored8 (c : Dev nD) (t : Fin cfg0.N) (y : S1x64x7168.Idx) :
    out0_8 (iblk m c 0 t) (iblk m c 1 t) (iblk m c 2 t) (iblk m c 3 t) (iblk m c 4 t) (iblk m c 5 t) (iblk m c 6 t) y = want8 m c (((cfg0.win 8).blk t).view.emb y) := by
  have ht : t.val < 32 := lt_of_lt_of_eq t.isLt N_0
  have h0 : (y 0).val < 1 := (y 0).isLt
  have hy : ((cfg0.win 8).blk t).view.emb y
      = ix3 (0 : Fin 1) (⟨t.val * 64 + (y 1).val, by have : (y 1).val < 64 := (y 1).isLt; omega⟩ : Fin 2048) (y 2) := by
    blk_ext [places t]
  have hy0 : y = ix3 (0 : Fin 1) (y 1) (y 2) :=
    (eq_ix3 y).trans (congrArg (fun q => ix3 q (y 1) (y 2)) (Fin.ext (by show (y 0).val = 0; omega)))
  exact (congrArg _ hy0).trans ((block8 _ _ _ _ _ _ _ (y 1) (y 2)).trans
    ((read6 m c t (y 1) (y 2) ht).trans ((congrArg (want8 m c) hy).trans (reference_weights _ _ _)).symm))

/-- The result array after the run. -/
theorem final7 (c : Dev nD) : (dats m 0 c).arrAt 7 cfg0.N = want7 m c := by
  refine (dats m 0 c).arrAt_eq_of_covers 7 _ (by decide +kernel) fun t _ y => ?_
  blk_simp
  rw [after0_7]
  exact stored7 m c t y

/-- The result array after the run. -/
theorem final8 (c : Dev nD) : (dats m 0 c).arrAt 8 cfg0.N = want8 m c := by
  refine (dats m 0 c).arrAt_eq_of_covers 8 _ (by decide +kernel) fun t _ y => ?_
  blk_simp
  rw [after0_8]
  exact stored8 m c t y

end Cert.MidValue

end
-- ==== Proof.TokensValue.lean ====
/- The memory tokens' keys and values: after the last grid point the three results are the reference's. -/
module

public import proofs.«01_k».proof.Proof.Gen.TokensIdeal.Value
public import proofs.«01_k».proof.Proof.Gen.TokensRefIdeal.Read
public import Idealize.ShloMosaic.Lib.Pointwise
public import Idealize.ShloMosaic.Lib.Claim
public import Idealize.ShloMosaic.Lib.Pipeline.ValueKit

@[expose] public section

set_option maxRecDepth 16384

noncomputable section

namespace Cert.TokensValue

open Cert.TokensIdeal Cert.TokensIdeal.Gen Cert.TokensRefIdeal.Read
open Idealize.ShloMosaic Idealize.ShloMosaic.TcCoe Idealize.SL.Sem
open Idealize.ShloMosaic.Pipeline (Dat)

variable (m : (ℓ : Loc nD τ sig) → Buf (Elt Ideal) ℓ)

/-- The reference's keys and values over the kernel's argument arrays. -/
abbrev want5 (c : Dev nD) : FVec Ideal S4096x1024 .bf16 :=
  val_main_v17 (F := Ideal) (m ((c : Thread nD τ).loc main_arg0)) (m ((c : Thread nD τ).loc main_arg1)) (m ((c : Thread nD τ).loc main_arg2))

/-- The reference's output weights over the kernel's argument arrays. -/
abbrev want6 (c : Dev nD) : FVec Ideal S2048x2048 .bf16 :=
  val_main_v20 (F := Ideal) (m ((c : Thread nD τ).loc main_arg3))

/-- The reference's input weights over the kernel's argument arrays. -/
abbrev want7 (c : Dev nD) : FVec Ideal S2048x7168 .bf16 :=
  val_main_v23 (F := Ideal) (m ((c : Thread nD τ).loc main_arg4))

/-- Which block each window holds at a grid point. -/
theorem places : ∀ t : Fin cfg0.N, win0_0.index t = ![t.val, 0]
    ∧ win0_1.index t = ![0, 0]
    ∧ win0_2.index t = ![0, 0, 0]
    ∧ win0_3.index t = ![0, t.val, 0]
    ∧ win0_4.index t = ![0, t.val, 0]
    ∧ win0_5.index t = ![t.val, 0]
    ∧ win0_6.index t = ![t.val, 0]
    ∧ win0_7.index t = ![t.val, 0] :=
  (by decide +kernel : ∀ t : Fin grid0.N, _)

/-- One token's projection: divided by its root mean square, scaled, times the weights. -/
def row (X G : Fin 2048 → EReal) (W : Fin 2048 → Fin 1024 → EReal) (n : Fin 1024) : EReal :=
  ∑ k, X k * Ideal.rsqrt (Ideal.div (∑ l, X l * X l) (Ideal.ofBits FTy.f32 1157627904#32)
    + Ideal.ofBits FTy.f32 897988541#32) * G k * W k n

/-- What the body stores for the tokens, at an index of its block. -/
theorem block5 (x : FVec Ideal S512x2048 .f32) (g : FVec Ideal S1x2048 .f32) (w : FVec Ideal S1x2048x1024 .bf16)
    (o : FVec Ideal S1x256x2048 .f32) (u : FVec Ideal S1x256x7168 .f32) (r : Fin 512) (n : Fin 1024) :
    (out0_5 (F := Ideal) x g w o u : FVec Ideal S512x1024 .bf16) (ix2 r n)
      = row (fun k => x (ix2 r k)) (fun k => g (ix2 0 k)) (fun k l => w (ix3 0 k l)) n := by
  frame_out
  pointwise [k0_pay3]
  rfl

/-- What the body stores of the output weights, at an index of its block. -/
theorem block6 (x : FVec Ideal S512x2048 .f32) (g : FVec Ideal S1x2048 .f32) (w : FVec Ideal S1x2048x1024 .bf16)
    (o : FVec Ideal S1x256x2048 .f32) (u : FVec Ideal S1x256x7168 .f32) (r : Fin 256) (n : Fin 2048) :
    (out0_6 (F := Ideal) x g w o u : FVec Ideal S256x2048 .bf16) (ix2 r n) = o (ix3 0 r n) := by
  frame_out
  pointwise [k0_pay1]

/-- What the body stores of the input weights, at an index of its block. -/
theorem block7 (x : FVec Ideal S512x2048 .f32) (g : FVec Ideal S1x2048 .f32) (w : FVec Ideal S1x2048x1024 .bf16)
    (o : FVec Ideal S1x256x2048 .f32) (u : FVec Ideal S1x256x7168 .f32) (r : Fin 256) (n : Fin 7168) :
    (out0_7 (F := Ideal) x g w o u : FVec Ideal S256x7168 .bf16) (ix2 r n) = u (ix3 0 r n) := by
  frame_out
  pointwise [k0_pay2]

/-- The reference's keys and values, at an index. -/
theorem reference_at (x : FVec Ideal S16x256x2048 .f32) (g : FVec Ideal S2048 .f32) (w : FVec Ideal S4x2048x1024 .f32)
    (R : Fin 4096) (n : Fin 1024) :
    val_main_v17 (F := Ideal) x g w (ix2 R n)
      = row (fun k => x (ix3 ⟨R.val / 256, by omega⟩ ⟨R.val % 256, by omega⟩ k)) (fun k => g (ix1 k)) (fun k l => w (ix3 0 k l)) n := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_cst, val_main_cst_0, val_main_cst_1]
  rfl

/-- The reference's output weights, at an index. -/
theorem reference_out (o : FVec Ideal S4x2048x2048 .f32) (r n : Fin 2048) :
    val_main_v20 (F := Ideal) o (ix2 r n) = o (ix3 0 r n) := by
  pointwise [val_main_v18, val_main_v19, val_main_v20]

/-- The reference's input weights, at an index. -/
theorem reference_in (u : FVec Ideal S4x2048x7168 .f32) (r : Fin 2048) (n : Fin 7168) :
    val_main_v23 (F := Ideal) u (ix2 r n) = u (ix3 0 r n) := by
  pointwise [val_main_v21, val_main_v22, val_main_v23]

/-- The tokens a grid point holds. -/
theorem read0 (c : Dev nD) (t : Fin cfg0.N) (r : Fin 512) (k : Fin 2048) (h : t.val < 8) :
    (iblk m c 0 t : FVec Ideal S512x2048 .f32) (ix2 r k)
      = (m ((c : Thread nD τ).loc main_arg0) : FVec Ideal S16x256x2048 .f32) (ix3 ⟨(t.val * 512 + r.val) / 256, by omega⟩ ⟨(t.val * 512 + r.val) % 256, by omega⟩ k) := by
  blk_simp [iblk, places t]
  entry_read
  pointwise
  blk_ext [places t]

/-- The scale a grid point holds is the scale. -/
theorem read1 (c : Dev nD) (t : Fin cfg0.N) (k : Fin 2048) :
    (iblk m c 1 t : FVec Ideal S1x2048 .f32) (ix2 0 k)
      = (m ((c : Thread nD τ).loc main_arg1) : FVec Ideal S2048 .f32) (ix1 k) := by
  blk_simp [iblk, places t]
  entry_read
  pointwise
  blk_ext [places t]

/-- The weights a grid point holds are the first layer's. -/
theorem read2 (c : Dev nD) (t : Fin cfg0.N) (k : Fin 2048) (n : Fin 1024) :
    (iblk m c 2 t : FVec Ideal S1x2048x1024 .bf16) (ix3 0 k n)
      = (m ((c : Thread nD τ).loc main_arg2) : FVec Ideal S4x2048x1024 .f32) (ix3 0 k n) := by
  blk_simp [iblk, places t]
  entry_read
  pointwise
  blk_ext [places t]

/-- A grid point's rows of the output weights. -/
theorem read3 (c : Dev nD) (t : Fin cfg0.N) (r : Fin 256) (n : Fin 2048) (h : t.val < 8) :
    (iblk m c 3 t : FVec Ideal S1x256x2048 .f32) (ix3 0 r n)
      = (m ((c : Thread nD τ).loc main_arg3) : FVec Ideal S4x2048x2048 .f32) (ix3 0 ⟨t.val * 256 + r.val, by omega⟩ n) := by
  blk_simp [iblk, places t]
  entry_read
  pointwise
  blk_ext [places t]

/-- A grid point's rows of the input weights. -/
theorem read4 (c : Dev nD) (t : Fin cfg0.N) (r : Fin 256) (n : Fin 7168) (h : t.val < 8) :
    (iblk m c 4 t : FVec Ideal S1x256x7168 .f32) (ix3 0 r n)
      = (m ((c : Thread nD τ).loc main_arg4) : FVec Ideal S4x2048x7168 .f32) (ix3 0 ⟨t.val * 256 + r.val, by omega⟩ n) := by
  blk_simp [iblk, places t]
  entry_read
  pointwise
  blk_ext [places t]

/-- What a grid point stores for its tokens is the reference's. -/
theorem stored5 (c : Dev nD) (t : Fin cfg0.N) (y : S512x1024.Idx) :
    out0_5 (iblk m c 0 t) (iblk m c 1 t) (iblk m c 2 t) (iblk m c 3 t) (iblk m c 4 t) y = want5 m c (((cfg0.win 5).blk t).view.emb y) := by
  have ht : t.val < 8 := lt_of_lt_of_eq t.isLt N_0
  have hy : ((cfg0.win 5).blk t).view.emb y
      = ix2 (⟨t.val * 512 + (y 0).val, by have : (y 0).val < 512 := (y 0).isLt; omega⟩ : Fin 4096) (y 1) := by
    blk_ext [places t]
  refine (congrArg _ (eq_ix2 y)).trans ((block5 _ _ _ _ _ (y 0) (y 1)).trans (Eq.trans ?_
    ((congrArg (want5 m c) hy).trans (reference_at _ _ _ _ _)).symm))
  have h0 := fun k => read0 m c t (y 0) k ht
  have h1 := fun k => read1 m c t k
  have h2 := fun k n => read2 m c t k n
  rw [funext h0, funext h1, funext fun k => funext (h2 k)]

/-- What a grid point stores of the output weights is the reference's. -/
theorem stored6 (c : Dev nD) (t : Fin cfg0.N) (y : S256x2048.Idx) :
    out0_6 (iblk m c 0 t) (iblk m c 1 t) (iblk m c 2 t) (iblk m c 3 t) (iblk m c 4 t) y = want6 m c (((cfg0.win 6).blk t).view.emb y) := by
  have ht : t.val < 8 := lt_of_lt_of_eq t.isLt N_0
  have hy : ((cfg0.win 6).blk t).view.emb y
      = ix2 (⟨t.val * 256 + (y 0).val, by have : (y 0).val < 256 := (y 0).isLt; omega⟩ : Fin 2048) (y 1) := by
    blk_ext [places t]
  exact (congrArg _ (eq_ix2 y)).trans ((block6 _ _ _ _ _ (y 0) (y 1)).trans
    ((read3 m c t (y 0) (y 1) ht).trans ((congrArg (want6 m c) hy).trans (reference_out _ _ _)).symm))

/-- What a grid point stores of the input weights is the reference's. -/
theorem stored7 (c : Dev nD) (t : Fin cfg0.N) (y : S256x7168.Idx) :
    out0_7 (iblk m c 0 t) (iblk m c 1 t) (iblk m c 2 t) (iblk m c 3 t) (iblk m c 4 t) y = want7 m c (((cfg0.win 7).blk t).view.emb y) := by
  have ht : t.val < 8 := lt_of_lt_of_eq t.isLt N_0
  have hy : ((cfg0.win 7).blk t).view.emb y
      = ix2 (⟨t.val * 256 + (y 0).val, by have : (y 0).val < 256 := (y 0).isLt; omega⟩ : Fin 2048) (y 1) := by
    blk_ext [places t]
  exact (congrArg _ (eq_ix2 y)).trans ((block7 _ _ _ _ _ (y 0) (y 1)).trans
    ((read4 m c t (y 0) (y 1) ht).trans ((congrArg (want7 m c) hy).trans (reference_in _ _ _)).symm))

/-- The keys and values after the run. -/
theorem final5 (c : Dev nD) : (dats m 0 c).arrAt 5 cfg0.N = want5 m c := by
  refine (dats m 0 c).arrAt_eq_of_covers 5 _ (by decide +kernel) fun t _ y => ?_
  blk_simp
  rw [after0_5]
  exact stored5 m c t y

/-- The output weights after the run. -/
theorem final6 (c : Dev nD) : (dats m 0 c).arrAt 6 cfg0.N = want6 m c := by
  refine (dats m 0 c).arrAt_eq_of_covers 6 _ (by decide +kernel) fun t _ y => ?_
  blk_simp
  rw [after0_6]
  exact stored6 m c t y

/-- The input weights after the run. -/
theorem final7 (c : Dev nD) : (dats m 0 c).arrAt 7 cfg0.N = want7 m c := by
  refine (dats m 0 c).arrAt_eq_of_covers 7 _ (by decide +kernel) fun t _ y => ?_
  blk_simp
  rw [after0_7]
  exact stored7 m c t y

end Cert.TokensValue

end
-- ==== Proof.MemoryBlock.lean ====
/- The memory attention of one grid point: what the body stores, at an index. -/
module

public import proofs.«01_k».proof.Proof.Gen.MemoryIdeal.Value
public import Idealize.ShloMosaic.Lib.Pointwise
public import Idealize.ShloMosaic.Lib.Claim
public import Idealize.ShloMosaic.Lib.Pipeline.ValueKit

@[expose] public section

set_option maxRecDepth 16384

noncomputable section

namespace Cert.MemoryBlock

open Cert.MemoryIdeal Cert.MemoryIdeal.Gen
open Idealize.ShloMosaic Idealize.ShloMosaic.TcCoe Idealize.SL.Sem
open Idealize.ShloMosaic.Pipeline (Dat)

/-- The greatest of a family of scores, as the programs take it. -/
def most {n : ℕ} (S : Fin n → EReal) : EReal := Finset.univ.fold max (Ideal.ofBits FTy.f32 4286578688#32) S

/-- One element the kernel stores: the values' mean with weights in powers of 2, times the gate. -/
def attend (q : Fin 128 → EReal) (k : Fin 256 → Fin 128 → EReal) (v : Fin 256 → EReal) (g : EReal) : EReal :=
  Ideal.div (∑ j, Ideal.exp2 (∑ d, q d * k j d - most (fun i => ∑ d, q d * k i d)) * v j)
      (∑ j, Ideal.exp2 (∑ d, q d * k j d - most (fun i => ∑ d, q d * k i d)))
    * g

/-- A tile's element is the block's element at the tile's place. -/
theorem attend_at (x9 x12 : Vec Ideal S2048x256 .bf16) (x10 x11 : Vec Ideal S256x256 .bf16) (r : Fin 2048) (n : Fin 256)
    (a : Fin 2048) (b : Fin 256) (c : Fin 128 → Fin 256) (k : ℕ) (y : ℕ) (ha : r.val = a.val) (hb : n.val = b.val)
    (hk : n.val = 128 * k + y) (hy : y < 128) (hc : ∀ d, (c d).val = 128 * k + d.val) :
    attend (fun d => x9 (ix2 a (c d))) (fun j d => x10 (ix2 j (c d))) (fun j => x11 (ix2 j b)) (x12 (ix2 a b))
      = attend (fun d => x9 (ix2 r ⟨128 * (n.val / 128) + d.val, by omega⟩)) (fun j d => x10 (ix2 j ⟨128 * (n.val / 128) + d.val, by omega⟩))
          (fun j => x11 (ix2 j n)) (x12 (ix2 r n)) := by
  have e1 : a = r := Fin.ext ha.symm
  have e2 : b = n := Fin.ext hb.symm
  have e3 : c = fun d => (⟨128 * (n.val / 128) + d.val, by omega⟩ : Fin 256) := funext fun d => Fin.ext (by
    rw [hc]
    show _ = 128 * (n.val / 128) + d.val
    omega)
  subst e1
  subst e2
  rw [e3]

variable (m : (ℓ : Loc nD τ sig) → Buf (Elt Ideal) ℓ)

/-- The block of a grid point, at an index. -/
theorem block14 (c : Dev nD) (t : Fin cfg0.N) (r : Fin 2048) (n : Fin 256) :
    (outsAt0 m c t).2 (ix2 r n)
      = attend (fun d => iblk m c 9 t (ix2 r ⟨128 * (n.val / 128) + d.val, by omega⟩))
          (fun j d => iblk m c 10 t (ix2 j ⟨128 * (n.val / 128) + d.val, by omega⟩))
          (fun j => iblk m c 11 t (ix2 j n)) (iblk m c 12 t (ix2 r n)) := by
  unfold Gen.outsAt0
  frame_open
  frame_out
  canon_tiles x h
  case piece0 =>
    open_payloads
    pointwise
    refine Eq.trans ?_ (attend_at (iblk m c 9 t) (iblk m c 12 t) (iblk m c 10 t) (iblk m c 11 t) r n
      ⟨1536 + (x 0).val, by omega⟩ ⟨128 + (x 1).val, by omega⟩ (fun d => ⟨128 + d.val, by omega⟩) 1 (x 1).val
      h0 h1 (by first | exact h1 | exact h1.trans (Nat.zero_add _).symm) x1_lt (fun d => by first | rfl | exact (Nat.zero_add _).symm))
    unfold attend most
    rfl
  case piece1 =>
    open_payloads
    pointwise
    refine Eq.trans ?_ (attend_at (iblk m c 9 t) (iblk m c 12 t) (iblk m c 10 t) (iblk m c 11 t) r n
      ⟨1024 + (x 0).val, by omega⟩ ⟨128 + (x 1).val, by omega⟩ (fun d => ⟨128 + d.val, by omega⟩) 1 (x 1).val
      h0 h1 (by first | exact h1 | exact h1.trans (Nat.zero_add _).symm) x1_lt (fun d => by first | rfl | exact (Nat.zero_add _).symm))
    unfold attend most
    rfl
  case piece2 =>
    open_payloads
    pointwise
    refine Eq.trans ?_ (attend_at (iblk m c 9 t) (iblk m c 12 t) (iblk m c 10 t) (iblk m c 11 t) r n
      ⟨512 + (x 0).val, by omega⟩ ⟨128 + (x 1).val, by omega⟩ (fun d => ⟨128 + d.val, by omega⟩) 1 (x 1).val
      h0 h1 (by first | exact h1 | exact h1.trans (Nat.zero_add _).symm) x1_lt (fun d => by first | rfl | exact (Nat.zero_add _).symm))
    unfold attend most
    rfl
  case piece3 =>
    open_payloads
    pointwise
    refine Eq.trans ?_ (attend_at (iblk m c 9 t) (iblk m c 12 t) (iblk m c 10 t) (iblk m c 11 t) r n
      ⟨(x 0).val, by omega⟩ ⟨128 + (x 1).val, by omega⟩ (fun d => ⟨128 + d.val, by omega⟩) 1 (x 1).val
      h0 h1 (by first | exact h1 | exact h1.trans (Nat.zero_add _).symm) x1_lt (fun d => by first | rfl | exact (Nat.zero_add _).symm))
    unfold attend most
    rfl
  case piece4 =>
    open_payloads
    pointwise
    refine Eq.trans ?_ (attend_at (iblk m c 9 t) (iblk m c 12 t) (iblk m c 10 t) (iblk m c 11 t) r n
      ⟨1536 + (x 0).val, by omega⟩ ⟨(x 1).val, by omega⟩ (fun d => ⟨d.val, by omega⟩) 0 (x 1).val
      h0 h1 (by first | exact h1 | exact h1.trans (Nat.zero_add _).symm) x1_lt (fun d => by first | rfl | exact (Nat.zero_add _).symm))
    unfold attend most
    rfl
  case piece5 =>
    open_payloads
    pointwise
    refine Eq.trans ?_ (attend_at (iblk m c 9 t) (iblk m c 12 t) (iblk m c 10 t) (iblk m c 11 t) r n
      ⟨1024 + (x 0).val, by omega⟩ ⟨(x 1).val, by omega⟩ (fun d => ⟨d.val, by omega⟩) 0 (x 1).val
      h0 h1 (by first | exact h1 | exact h1.trans (Nat.zero_add _).symm) x1_lt (fun d => by first | rfl | exact (Nat.zero_add _).symm))
    unfold attend most
    rfl
  case piece6 =>
    open_payloads
    pointwise
    refine Eq.trans ?_ (attend_at (iblk m c 9 t) (iblk m c 12 t) (iblk m c 10 t) (iblk m c 11 t) r n
      ⟨512 + (x 0).val, by omega⟩ ⟨(x 1).val, by omega⟩ (fun d => ⟨d.val, by omega⟩) 0 (x 1).val
      h0 h1 (by first | exact h1 | exact h1.trans (Nat.zero_add _).symm) x1_lt (fun d => by first | rfl | exact (Nat.zero_add _).symm))
    unfold attend most
    rfl
  case piece7 =>
    open_payloads
    pointwise
    refine Eq.trans ?_ (attend_at (iblk m c 9 t) (iblk m c 12 t) (iblk m c 10 t) (iblk m c 11 t) r n
      ⟨(x 0).val, by omega⟩ ⟨(x 1).val, by omega⟩ (fun d => ⟨d.val, by omega⟩) 0 (x 1).val
      h0 h1 (by first | exact h1 | exact h1.trans (Nat.zero_add _).symm) x1_lt (fun d => by first | rfl | exact (Nat.zero_add _).symm))
    unfold attend most
    rfl

end Cert.MemoryBlock

end
-- ==== Proof.MemoryReads.lean ====
/- The memory attention of one grid point: its windows, read from the arguments. -/
module

public import proofs.«01_k».proof.Proof.Gen.MemoryIdeal.Value
public import Idealize.ShloMosaic.Lib.Pointwise
public import Idealize.ShloMosaic.Lib.Claim
public import Idealize.ShloMosaic.Lib.Pipeline.ValueKit

@[expose] public section

set_option maxRecDepth 16384

noncomputable section

namespace Cert.MemoryReads

open Cert.MemoryIdeal Cert.MemoryIdeal.Gen
open Idealize.ShloMosaic Idealize.ShloMosaic.TcCoe Idealize.SL.Sem
open Idealize.ShloMosaic.Pipeline (Dat)

variable (m : (ℓ : Loc nD τ sig) → Buf (Elt Ideal) ℓ)

/-- Which block each of the memory attention's windows holds at a grid point. -/
theorem places : ∀ t : Fin cfg0.N, win0_9.index t = ![t.val / 2, 24 + t.val % 2]
    ∧ win0_10.index t = ![t.val / 2, t.val % 2]
    ∧ win0_11.index t = ![t.val / 2, 2 + t.val % 2]
    ∧ win0_12.index t = ![t.val / 2, 26 + t.val % 2]
    ∧ win0_14.index t = ![t.val / 2, t.val % 2] :=
  (by decide +kernel : ∀ t : Fin grid0.N, _)

/-- The queries of a grid point. -/
theorem read9 (c : Dev nD) (t : Fin cfg0.N) (r : Fin 2048) (n : Fin 256) (h : t.val < 32) :
    (iblk m c 9 t : FVec Ideal S2048x256 .bf16) (ix2 r n)
      = (m ((c : Thread nD τ).loc main_arg0) : FVec Ideal S32768x7168 .bf16) (ix2 ⟨t.val / 2 * 2048 + r.val, by omega⟩ ⟨(24 + t.val % 2) * 256 + n.val, by omega⟩) := by
  blk_simp [iblk, places t]
  entry_read
  pointwise
  blk_ext [places t]

/-- The keys of a grid point. -/
theorem read10 (c : Dev nD) (t : Fin cfg0.N) (r : Fin 256) (n : Fin 256) (h : t.val < 32) :
    (iblk m c 10 t : FVec Ideal S256x256 .bf16) (ix2 r n)
      = (m ((c : Thread nD τ).loc main_arg1) : FVec Ideal S4096x1024 .bf16) (ix2 ⟨t.val / 2 * 256 + r.val, by omega⟩ ⟨t.val % 2 * 256 + n.val, by omega⟩) := by
  blk_simp [iblk, places t]
  entry_read
  pointwise
  blk_ext [places t]

/-- The values of a grid point. -/
theorem read11 (c : Dev nD) (t : Fin cfg0.N) (r : Fin 256) (n : Fin 256) (h : t.val < 32) :
    (iblk m c 11 t : FVec Ideal S256x256 .bf16) (ix2 r n)
      = (m ((c : Thread nD τ).loc main_arg1) : FVec Ideal S4096x1024 .bf16) (ix2 ⟨t.val / 2 * 256 + r.val, by omega⟩ ⟨(2 + t.val % 2) * 256 + n.val, by omega⟩) := by
  blk_simp [iblk, places t]
  entry_read
  pointwise
  blk_ext [places t]

/-- The gates of a grid point. -/
theorem read12 (c : Dev nD) (t : Fin cfg0.N) (r : Fin 2048) (n : Fin 256) (h : t.val < 32) :
    (iblk m c 12 t : FVec Ideal S2048x256 .bf16) (ix2 r n)
      = (m ((c : Thread nD τ).loc main_arg0) : FVec Ideal S32768x7168 .bf16) (ix2 ⟨t.val / 2 * 2048 + r.val, by omega⟩ ⟨(26 + t.val % 2) * 256 + n.val, by omega⟩) := by
  blk_simp [iblk, places t]
  entry_read
  pointwise
  blk_ext [places t]

end Cert.MemoryReads

end
-- ==== Proof.MemoryMath.lean ====
/- Softmax over the extended reals: with finite scores, a mean weighted by powers of 2 is the softmax's mean. -/
module

public import Idealize.ShloMosaic.Lib.IdealHost
public import Idealize.ShloMosaic.Lib.Pointwise

@[expose] public section

noncomputable section

namespace Cert.MemoryMath

open Idealize.ShloMosaic

theorem ofBits_bot : Ideal.ofBits FTy.f32 4286578688#32 = ⊥ := by
  simp [Ideal.ofBits, Ideal.ieee]

theorem ofBits_top : Ideal.ofBits FTy.f32 2139095040#32 = ⊤ := by
  simp [Ideal.ofBits, Ideal.ieee]

/-- The logarithm of 2, as the reference takes it. -/
theorem log_two : Ideal.log (Ideal.ofBits FTy.f32 1073741824#32) = ((Real.log 2 : ℝ) : EReal) := by
  have h : Ideal.ofBits FTy.f32 1073741824#32 = ((2 : ℝ) : EReal) := by
    simp [Ideal.ofBits, Ideal.ieee]
    norm_cast
    norm_num
  rw [h, Ideal.log_coe, if_neg (by norm_num)]

/-- A number whose absolute value is below infinity is real. -/
theorem real_of_abs (x : EReal) (h : Ideal.cmp .olt (max x (-x)) (Ideal.ofBits FTy.f32 2139095040#32) = 1#1) :
    ∃ r : ℝ, x = (r : EReal) := by
  rw [ofBits_top] at h
  have h1 : max x (-x) < ⊤ := by
    by_contra hn
    simp [Ideal.cmp, hn] at h
  rw [max_lt_iff] at h1
  refine ⟨_, (EReal.coe_toReal h1.1.ne ?_).symm⟩
  intro hb
  subst hb
  simp at h1

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum times a real that isn't negative, whatever the terms are. -/
theorem sum_mul_coe {ι : Type} (s : Finset ι) (f : ι → EReal) (c : ℝ) (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha,
      EReal.right_distrib_of_nonneg_of_ne_top (EReal.coe_nonneg.mpr hc) (EReal.coe_ne_top c), ih]

/-- The greatest of finitely many real scores is real. -/
theorem top_real {n : ℕ} (x : Fin n → ℝ) (j0 : Fin n) :
    ∃ M : ℝ, Finset.univ.fold max ⊥ (fun j => (x j : EReal)) = (M : EReal) := by
  have h1 : Finset.univ.fold max ⊥ (fun j => (x j : EReal)) < ⊤ := by
    rw [Finset.fold_max_lt]
    exact ⟨bot_lt_top, fun j _ => EReal.coe_lt_top _⟩
  have h2 : ⊥ < Finset.univ.fold max ⊥ (fun j => (x j : EReal)) := by
    rw [Finset.lt_fold_max]
    exact Or.inr ⟨j0, Finset.mem_univ _, EReal.bot_lt_coe _⟩
  exact ⟨_, (EReal.coe_toReal h1.ne h2.ne').symm⟩

theorem div_real (a b : ℝ) (h : 0 < b) : Ideal.div (a : EReal) (b : EReal) = ((a / b : ℝ) : EReal) := by
  rw [Ideal.div_coe h.ne', ← EReal.coe_mul]; congr 1; ring

/-- The kernel's mean (weights in powers of 2, divided at the end) is the reference's (a softmax's weights, each divided
    before the product). -/
theorem same {n : ℕ} (x : Fin n → ℝ) (j0 : Fin n) (v : Fin n → EReal) (m m' : EReal)
    (hm : m = Finset.univ.fold max ⊥ (fun j => (x j : EReal)))
    (hm' : m' = Finset.univ.fold max ⊥ (fun j => ((x j * Real.log 2 : ℝ) : EReal))) :
    Ideal.div (∑ j, Ideal.exp2 ((x j : EReal) - m) * v j) (∑ j, Ideal.exp2 ((x j : EReal) - m))
      = ∑ j, v j * Ideal.div (Ideal.exp (((x j * Real.log 2 : ℝ) : EReal) - m'))
          (∑ i, Ideal.exp (((x i * Real.log 2 : ℝ) : EReal) - m')) := by
  obtain ⟨M, hM⟩ := top_real x j0
  obtain ⟨M', hM'⟩ := top_real (fun j => x j * Real.log 2) j0
  rw [hM] at hm
  rw [hM'] at hm'
  subst hm hm'
  have pa : ∀ j, (0 : ℝ) < (2 : ℝ) ^ (x j - M) := fun j => by positivity
  have pk : (0 : ℝ) < Real.exp (M * Real.log 2 - M') := Real.exp_pos _
  have e2 : ∀ j, Ideal.exp2 ((x j : EReal) - (M : EReal)) = (((2 : ℝ) ^ (x j - M) : ℝ) : EReal) := fun j => by
    rw [← EReal.coe_sub, Ideal.exp2_coe]; rfl
  have ee : ∀ j, Ideal.exp (((x j * Real.log 2 : ℝ) : EReal) - (M' : EReal))
      = (((2 : ℝ) ^ (x j - M) * Real.exp (M * Real.log 2 - M') : ℝ) : EReal) := fun j => by
    rw [← EReal.coe_sub, Ideal.exp_coe, Real.rpow_def_of_pos two_pos, ← Real.exp_add]
    congr 2
    ring
  have ps : (0 : ℝ) < ∑ j, (2 : ℝ) ^ (x j - M) :=
    Finset.sum_pos (fun j _ => pa j) ⟨j0, Finset.mem_univ _⟩
  have es : ∑ j, (2 : ℝ) ^ (x j - M) * Real.exp (M * Real.log 2 - M')
      = (∑ j, (2 : ℝ) ^ (x j - M)) * Real.exp (M * Real.log 2 - M') := by rw [Finset.sum_mul]
  simp only [e2, ee, ← coe_sum, es, div_real _ _ (mul_pos ps pk)]
  rw [Ideal.div_coe ps.ne', sum_mul_coe _ _ _ (by positivity)]
  refine Finset.sum_congr rfl fun j _ => ?_
  rw [mul_div_mul_right _ _ pk.ne', div_eq_mul_one_div ((2 : ℝ) ^ (x j - M)) _, EReal.coe_mul]
  exact (mul_right_comm _ _ _).trans (mul_comm _ _)

end Cert.MemoryMath

end
-- ==== Proof.MemoryRef.lean ====
/- The reference of the memory attention at an index, and what the precondition says of an element. -/
module

public import proofs.«01_k».proof.Proof.Gen.MemoryRefIdeal.Read
public import proofs.«01_k».proof.Proof.MemoryMath
public import proofs.«01_k».proof.Pre_finite
public import Idealize.ShloMosaic.Lib.Pointwise
public import Idealize.ShloMosaic.Lib.Claim
public import Idealize.ShloMosaic.Lib.ReduceAll

@[expose] public section

set_option maxRecDepth 16384

noncomputable section

namespace Cert.MemoryValue

open Cert.MemoryRefIdeal Cert.MemoryRefIdeal.Gen Cert.MemoryRefIdeal.Read
open Idealize.ShloMosaic Idealize.ShloMosaic.TcCoe

/-- The greatest of a family of scores, as the programs take it. -/
def most {n : ℕ} (S : Fin n → EReal) : EReal := Finset.univ.fold max (Ideal.ofBits FTy.f32 4286578688#32) S

/-- A key's score in the reference: the product of the query and the key, times log 2. -/
def score (q : Fin 128 → EReal) (k : Fin 256 → Fin 128 → EReal) (j : Fin 256) : EReal :=
  (∑ d, q d * k j d) * Ideal.log (Ideal.ofBits FTy.f32 1073741824#32)

/-- One element of the reference. -/
def softmaxed (q : Fin 128 → EReal) (k : Fin 256 → Fin 128 → EReal) (v : Fin 256 → EReal) (g : EReal) : EReal :=
  (∑ j, v j * Ideal.div (Ideal.exp (score q k j - most (score q k))) (∑ i, Ideal.exp (score q k i - most (score q k)))) * g

theorem ix2_same {a b : ℕ} {i i' : Fin a} {j j' : Fin b} (hi : i.val = i'.val) (hj : j.val = j'.val) : ix2 i j = ix2 i' j' := by
  cases Fin.ext hi
  cases Fin.ext hj
  rfl

theorem max_most {n : ℕ} (S : Fin n → EReal) : max (Ideal.ofBits FTy.f32 4286578688#32) (most S) = most S := by
  rw [Cert.MemoryMath.ofBits_bot]
  exact max_eq_right bot_le

variable (z : FVec Ideal S32768x7168 .bf16) (mkv : FVec Ideal S4096x1024 .bf16)

/-- A query's element. -/
theorem query_at (b : Fin 16) (t : Fin 2048) (h : Fin 4) (d : Fin 128) :
    val_main_v2 (F := Ideal) z (ix4 b t h d)
      = z (ix2 ⟨b.val * 2048 + t.val, by omega⟩ ⟨6144 + (128 * h.val + d.val), by omega⟩) := by
  pointwise [val_main_v0, val_main_v1, val_main_v2]
  refine congrArg z (congrArg (ix2 _) (Fin.ext ?_))
  show 6144 + (h.val * 128 + d.val) = _
  rw [Nat.mul_comm]

/-- A gate's element. -/
theorem gate_at (b : Fin 16) (t : Fin 2048) (h : Fin 4) (d : Fin 128) :
    val_main_v5 (F := Ideal) z (ix4 b t h d)
      = z (ix2 ⟨b.val * 2048 + t.val, by omega⟩ ⟨6656 + (128 * h.val + d.val), by omega⟩) := by
  pointwise [val_main_v3, val_main_v4, val_main_v5]
  refine congrArg z (congrArg (ix2 _) (Fin.ext ?_))
  show 6656 + (h.val * 128 + d.val) = _
  rw [Nat.mul_comm]

/-- A key's element. -/
theorem key_at (b : Fin 16) (j : Fin 256) (h : Fin 4) (d : Fin 128) :
    val_main_v8 (F := Ideal) mkv (ix4 b j h d)
      = mkv (ix2 ⟨b.val * 256 + j.val, by omega⟩ ⟨128 * h.val + d.val, by omega⟩) := by
  pointwise [val_main_v6, val_main_v7, val_main_v8]
  refine congrArg mkv (congrArg (ix2 _) (Fin.ext ?_))
  show h.val * 128 + d.val = _
  rw [Nat.mul_comm]

/-- A value's element. -/
theorem value_at (b : Fin 16) (j : Fin 256) (h : Fin 4) (d : Fin 128) :
    val_main_v11 (F := Ideal) mkv (ix4 b j h d)
      = mkv (ix2 ⟨b.val * 256 + j.val, by omega⟩ ⟨512 + (128 * h.val + d.val), by omega⟩) := by
  pointwise [val_main_v9, val_main_v10, val_main_v11]
  refine congrArg mkv (congrArg (ix2 _) (Fin.ext ?_))
  show 512 + (h.val * 128 + d.val) = _
  rw [Nat.mul_comm]

/-- A score. -/
theorem score_at (b : Fin 16) (h : Fin 4) (t : Fin 2048) (j : Fin 256) :
    val_main_v15 (F := Ideal) z mkv (ix4 b h t j)
      = score (fun d => val_main_v2 (F := Ideal) z (ix4 b t h d)) (fun j d => val_main_v8 (F := Ideal) mkv (ix4 b j h d)) j := by
  pointwise [val_main_v12, val_main_cst, val_main_v13, val_main_v14, val_main_v15]
  rfl

/-- The greatest score of a row. -/
theorem most_at (b : Fin 16) (h : Fin 4) (t : Fin 2048) :
    val_main_v18 (F := Ideal) z mkv (ix3 b h t) = max (Ideal.ofBits FTy.f32 4286578688#32) (most (fun j => val_main_v15 (F := Ideal) z mkv (ix4 b h t j))) := by
  rw [val_main_v18_apply, val_main_v17_apply]
  refine congrArg (max (Ideal.ofBits FTy.f32 4286578688#32)) ?_
  unfold val_main_v16
  generalize val_main_v15 (F := Ideal) z mkv = y
  pointwise [val_main_cst_0]
  rfl

/-- A key's weight before the division. -/
theorem exp_at (b : Fin 16) (h : Fin 4) (t : Fin 2048) (j : Fin 256) :
    val_main_v22 (F := Ideal) z mkv (ix4 b h t j)
      = Ideal.exp (val_main_v15 (F := Ideal) z mkv (ix4 b h t j) - val_main_v18 (F := Ideal) z mkv (ix3 b h t)) := by
  pointwise [val_main_v19, val_main_v20, val_main_v21, val_main_v22]

/-- A key's weight. -/
theorem weight_at (b : Fin 16) (h : Fin 4) (t : Fin 2048) (j : Fin 256) :
    val_main_v26 (F := Ideal) z mkv (ix4 b h t j)
      = Ideal.div (val_main_v22 (F := Ideal) z mkv (ix4 b h t j)) (∑ i : Fin 256, val_main_v22 (F := Ideal) z mkv (ix4 b h t i)) := by
  pointwise [val_main_cst_2, val_main_v23, val_main_v24, val_main_v25, val_main_v26]

/-- A row of the reference before its reshape. -/
theorem mean_at (b : Fin 16) (t : Fin 2048) (h : Fin 4) (d : Fin 128) :
    val_main_v29 (F := Ideal) z mkv (ix4 b t h d)
      = (∑ j : Fin 256, val_main_v11 (F := Ideal) mkv (ix4 b j h d) * val_main_v26 (F := Ideal) z mkv (ix4 b h t j)) * val_main_v5 (F := Ideal) z (ix4 b t h d) := by
  pointwise [val_main_v27, val_main_v28, val_main_v29]

/-- The reference's reshape. -/
theorem row_at (R : Fin 32768) (N : Fin 512) :
    val_main_v31 (F := Ideal) z mkv (ix2 R N)
      = val_main_v29 (F := Ideal) z mkv (ix4 ⟨R.val / 2048, by omega⟩ ⟨R.val % 2048, by omega⟩ ⟨N.val / 128, by omega⟩ ⟨N.val % 128, by omega⟩) := by
  pointwise [val_main_v30, val_main_v31]

/-- A row of the reference, from the arguments. -/
theorem cell_at (b : Fin 16) (t : Fin 2048) (h : Fin 4) (d : Fin 128) :
    val_main_v29 (F := Ideal) z mkv (ix4 b t h d)
      = softmaxed (fun e => z (ix2 ⟨b.val * 2048 + t.val, by omega⟩ ⟨6144 + (128 * h.val + e.val), by omega⟩))
          (fun j e => mkv (ix2 ⟨b.val * 256 + j.val, by omega⟩ ⟨128 * h.val + e.val, by omega⟩))
          (fun j => mkv (ix2 ⟨b.val * 256 + j.val, by omega⟩ ⟨512 + (128 * h.val + d.val), by omega⟩))
          (z (ix2 ⟨b.val * 2048 + t.val, by omega⟩ ⟨6656 + (128 * h.val + d.val), by omega⟩)) := by
  rw [mean_at]
  simp only [weight_at, exp_at, most_at, score_at, max_most, query_at, key_at, value_at, gate_at]
  rfl

/-- The reference at an index. -/
theorem reference_at (R : Fin 32768) (N : Fin 512) :
    val_main_v31 (F := Ideal) z mkv (ix2 R N)
      = softmaxed (fun d => z (ix2 R ⟨6144 + (128 * (N.val / 128) + d.val), by omega⟩))
          (fun j d => mkv (ix2 ⟨R.val / 2048 * 256 + j.val, by omega⟩ ⟨128 * (N.val / 128) + d.val, by omega⟩))
          (fun j => mkv (ix2 ⟨R.val / 2048 * 256 + j.val, by omega⟩ ⟨512 + N.val, by omega⟩))
          (z (ix2 R ⟨6656 + N.val, by omega⟩)) := by
  refine (row_at z mkv R N).trans ((cell_at z mkv _ _ _ _).trans ?_)
  have hR : R.val / 2048 * 2048 + R.val % 2048 = R.val := by omega
  have hN : 128 * (N.val / 128) + N.val % 128 = N.val := by omega
  refine congr (congr (congr (congrArg softmaxed (funext fun d => congrArg z (ix2_same hR rfl))) rfl)
    (funext fun j => congrArg mkv (ix2_same rfl (congrArg (512 + ·) hN)))) (congrArg z (ix2_same hR (congrArg (6656 + ·) hN)))

/-- The queries are real. -/
theorem query_real [Cert.Pre_finite.Facts] (h : Cert.Pre_finite.fn (F := Ideal) z mkv = fun _ => 1#1) (R : Fin 32768) (N : Fin 512) :
    ∃ r : ℝ, z (ix2 R ⟨6144 + N.val, by omega⟩) = (r : EReal) := by
  have h1 := congrFun h (fun a => a.elim0)
  unfold Cert.Pre_finite.fn at h1
  have h2 := (IntOp.andi_eq_one.1 h1).1
  have : Subsingleton Cert.Pre_finite.S_.Idx := ⟨fun a b => funext fun x => x.elim0⟩
  have h3 := Host.reduce_andi_all _ _ _ _ _ h2 (ix2 R N)
  refine Cert.MemoryMath.real_of_abs _ (Eq.trans ?_ h3)
  pointwise
  rfl

/-- The keys are real. -/
theorem key_real [Cert.Pre_finite.Facts] (h : Cert.Pre_finite.fn (F := Ideal) z mkv = fun _ => 1#1) (R : Fin 4096) (N : Fin 512) :
    ∃ r : ℝ, mkv (ix2 R ⟨N.val, by omega⟩) = (r : EReal) := by
  have h1 := congrFun h (fun a => a.elim0)
  unfold Cert.Pre_finite.fn at h1
  have h2 := (IntOp.andi_eq_one.1 h1).2
  have : Subsingleton Cert.Pre_finite.S_.Idx := ⟨fun a b => funext fun x => x.elim0⟩
  have h3 := Host.reduce_andi_all _ _ _ _ _ h2 (ix2 R N)
  refine Cert.MemoryMath.real_of_abs _ (Eq.trans ?_ h3)
  pointwise
  rfl

end Cert.MemoryValue

end
-- ==== Proof.MemoryFinal.lean ====
/- The memory attention: after the last grid point its result is the reference's. -/
module

public import proofs.«01_k».proof.Proof.MemoryBlock
public import proofs.«01_k».proof.Proof.MemoryReads
public import proofs.«01_k».proof.Proof.MemoryRef
public import Idealize.ShloMosaic.Lib.Pointwise
public import Idealize.ShloMosaic.Lib.Claim
public import Idealize.ShloMosaic.Lib.Pipeline.ValueKit

@[expose] public section

set_option maxRecDepth 16384

noncomputable section

namespace Cert.MemoryFinal

open Cert.MemoryIdeal Cert.MemoryIdeal.Gen
open Idealize.ShloMosaic Idealize.ShloMosaic.TcCoe Idealize.SL.Sem
open Idealize.ShloMosaic.Pipeline (Dat)
open Cert.MemoryRefIdeal.Read (val_main_v31)
open Cert.MemoryBlock (attend)
open Cert.MemoryValue (softmaxed score ix2_same)

/-- With finite queries and keys the kernel's element is the reference's. -/
theorem same_cell (q : Fin 128 → EReal) (k : Fin 256 → Fin 128 → EReal) (v : Fin 256 → EReal) (g : EReal)
    (hq : ∀ d, ∃ r : ℝ, q d = (r : EReal)) (hk : ∀ j d, ∃ r : ℝ, k j d = (r : EReal)) : attend q k v g = softmaxed q k v g := by
  choose r hr using hq
  choose s hs using hk
  have e : ∀ j, ∑ d, q d * k j d = ((∑ d, r d * s j d : ℝ) : EReal) := fun j => by
    rw [Cert.MemoryMath.coe_sum]
    exact Finset.sum_congr rfl fun d _ => by rw [hr, hs, EReal.coe_mul]
  have e' : score q k = fun j => (((∑ d, r d * s j d) * Real.log 2 : ℝ) : EReal) := funext fun j => by
    unfold Cert.MemoryValue.score
    rw [e, Cert.MemoryMath.log_two, EReal.coe_mul]
  unfold Cert.MemoryBlock.attend Cert.MemoryValue.softmaxed
  simp only [e]
  rw [e']
  refine congrArg (· * g) (Cert.MemoryMath.same (fun j => ∑ d, r d * s j d) 0 v _ _ ?_ ?_)
  · unfold Cert.MemoryBlock.most
    rw [Cert.MemoryMath.ofBits_bot]
  · unfold Cert.MemoryValue.most
    rw [Cert.MemoryMath.ofBits_bot]

variable (m : (ℓ : Loc nD τ sig) → Buf (Elt Ideal) ℓ)

/-- The reference's result over the kernel's argument arrays. -/
abbrev want14 (c : Dev nD) : FVec Ideal S32768x512 .bf16 :=
  val_main_v31 (F := Ideal) (m ((c : Thread nD τ).loc main_arg0)) (m ((c : Thread nD τ).loc main_arg1))

/-- What a grid point stores is the reference's. -/
theorem stored14 [Cert.Pre_finite.Facts] (c : Dev nD)
    (hp : Cert.Pre_finite.fn (F := Ideal) (m ((c : Thread nD τ).loc main_arg0)) (m ((c : Thread nD τ).loc main_arg1)) = fun _ => 1#1)
    (t : Fin cfg0.N) (y : S2048x256.Idx) :
    (outsAt0 m c t).2 y = want14 m c (((cfg0.win 14).blk t).view.emb y) := by
  have ht : t.val < 32 := lt_of_lt_of_eq t.isLt N_0
  have h0 : (y 0).val < 2048 := (y 0).isLt
  have h1 : (y 1).val < 256 := (y 1).isLt
  have hy : ((cfg0.win 14).blk t).view.emb y
      = ix2 (⟨t.val / 2 * 2048 + (y 0).val, by omega⟩ : Fin 32768) (⟨t.val % 2 * 256 + (y 1).val, by omega⟩ : Fin 512) := by
    blk_ext [Cert.MemoryReads.places t]
  refine (congrArg _ (eq_ix2 y)).trans ((Cert.MemoryBlock.block14 m c t (y 0) (y 1)).trans (Eq.trans ?_
    ((congrArg (want14 m c) hy).trans (Cert.MemoryValue.reference_at _ _ _ _)).symm))
  refine Eq.trans ?_ (same_cell _ _ _ _
    (fun d => Cert.MemoryValue.query_real _ _ hp _ ⟨128 * ((t.val % 2 * 256 + (y 1).val) / 128) + d.val, by omega⟩)
    (fun j d => Cert.MemoryValue.key_real _ _ hp _ ⟨128 * ((t.val % 2 * 256 + (y 1).val) / 128) + d.val, by omega⟩))
  refine congr (congr (congr (congrArg attend (funext fun d => ?_)) (funext fun j => funext fun d => ?_)) (funext fun j => ?_)) ?_
  · refine (Cert.MemoryReads.read9 m c t _ _ ht).trans (congrArg _ (ix2_same rfl ?_))
    show (24 + t.val % 2) * 256 + (128 * ((y 1).val / 128) + d.val) = 6144 + (128 * ((t.val % 2 * 256 + (y 1).val) / 128) + d.val)
    omega
  · refine (Cert.MemoryReads.read10 m c t _ _ ht).trans (congrArg _ (ix2_same ?_ ?_))
    · show t.val / 2 * 256 + j.val = (t.val / 2 * 2048 + (y 0).val) / 2048 * 256 + j.val
      omega
    · show t.val % 2 * 256 + (128 * ((y 1).val / 128) + d.val) = 128 * ((t.val % 2 * 256 + (y 1).val) / 128) + d.val
      omega
  · refine (Cert.MemoryReads.read11 m c t _ _ ht).trans (congrArg _ (ix2_same ?_ ?_))
    · show t.val / 2 * 256 + j.val = (t.val / 2 * 2048 + (y 0).val) / 2048 * 256 + j.val
      omega
    · show (2 + t.val % 2) * 256 + (y 1).val = 512 + (t.val % 2 * 256 + (y 1).val)
      omega
  · refine (Cert.MemoryReads.read12 m c t _ _ ht).trans (congrArg _ (ix2_same rfl ?_))
    show (26 + t.val % 2) * 256 + (y 1).val = 6656 + (t.val % 2 * 256 + (y 1).val)
    omega

/-- The result array after the run. -/
theorem final14 [Cert.Pre_finite.Facts] (c : Dev nD)
    (hp : Cert.Pre_finite.fn (F := Ideal) (m ((c : Thread nD τ).loc main_arg0)) (m ((c : Thread nD τ).loc main_arg1)) = fun _ => 1#1) :
    (dats m 0 c).arrAt 14 cfg0.N = want14 m c := by
  refine (dats m 0 c).arrAt_eq_of_covers 14 _ (by decide +kernel) fun t _ y => ?_
  blk_simp
  rw [after0_14]
  exact stored14 m c hp t y

end Cert.MemoryFinal

end
-- ==== Proof.lean ====
/- The proof of the certificate's claim. -/
module

public import proofs.«01_k».proof.Defs
public import proofs.«01_k».proof.Proof.Gen.OutProj.Frame
public import proofs.«01_k».proof.Proof.Gen.OutProjIdeal.Value
public import proofs.«01_k».proof.Proof.Gen.OutRefIdeal.Run
public import proofs.«01_k».proof.Proof.Gen.OutRefIdeal.Read
public import proofs.«01_k».proof.Proof.OutValue
public import proofs.«01_k».proof.Proof.Gen.InProj.Frame
public import proofs.«01_k».proof.Proof.Gen.InProjIdeal.Value
public import proofs.«01_k».proof.Proof.Gen.InRefIdeal.Run
public import proofs.«01_k».proof.Proof.Gen.InRefIdeal.Read
public import proofs.«01_k».proof.Proof.InValue
public import proofs.«01_k».proof.Proof.Gen.MidProj.Frame
public import proofs.«01_k».proof.Proof.Gen.MidProjIdeal.Value
public import proofs.«01_k».proof.Proof.Gen.MidRefIdeal.Run
public import proofs.«01_k».proof.Proof.Gen.MidRefIdeal.Read
public import proofs.«01_k».proof.Proof.Gen.Tokens.Frame
public import proofs.«01_k».proof.Proof.Gen.TokensIdeal.Value
public import proofs.«01_k».proof.Proof.Gen.TokensRefIdeal.Run
public import proofs.«01_k».proof.Proof.Gen.TokensRefIdeal.Read
public import proofs.«01_k».proof.Proof.Gen.Dilated.Frame
public import proofs.«01_k».proof.Proof.Gen.DilatedIdeal.Frame
public import proofs.«01_k».proof.Proof.Gen.Memory.Frame
public import proofs.«01_k».proof.Proof.Gen.MemoryIdeal.Value
public import proofs.«01_k».proof.Proof.Gen.MemoryRefIdeal.Run
public import proofs.«01_k».proof.Proof.Gen.MemoryRefIdeal.Read
public import proofs.«01_k».proof.Proof.MidValue
public import proofs.«01_k».proof.Proof.TokensValue
public import proofs.«01_k».proof.Proof.MemoryFinal
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem

theorem out_frame : Cert.quiescent_OutProj := fun m g _ => by
  run_from Cert.OutProj.Gen.frame m g

theorem out_ideal_frame : Cert.quiescent_OutProjIdeal := fun m g _ => by
  run_from Cert.OutProjIdeal.Gen.frame m g

theorem out_reference_frame : Cert.quiescent_OutRefIdeal := fun m g _ =>
  (θ_run _ _ _).mono (fun r h => ⟨fun c => (h c).2, sem_eq_zero_of_no_sems rfl r.2⟩) (Cert.OutRefIdeal.Value.run m g)

theorem out_value : Cert.algebraic_OutProjIdeal_OutRefIdeal := fun m g m' g' _ hagree =>
  ⟨fun c => Cert.OutValue.want m c,
    (θ_run _ _ _).mono (fun r h c => ⟨(h c).1.trans (Cert.OutValue.final m c), (h c).2⟩)
      (Cert.OutProjIdeal.Value.run_blocks m g),
    (θ_run _ _ _).mono (fun r h c => ⟨((h c).1.trans (Cert.OutRefIdeal.Read.val_main_v17_eq _ _ _ _ _ _)).trans (by
        obtain ⟨h0, h1, h2, h3, h4, h5⟩ := hagree c
        rw [h0, h1, h2, h3, h4, h5]), (h c).2⟩)
      (Cert.OutRefIdeal.Value.run m' g')⟩

theorem in_frame : Cert.quiescent_InProj := fun m g _ => by
  run_from Cert.InProj.Gen.frame m g

theorem in_ideal_frame : Cert.quiescent_InProjIdeal := fun m g _ => by
  run_from Cert.InProjIdeal.Gen.frame m g

theorem in_reference_frame : Cert.quiescent_InRefIdeal := fun m g _ =>
  (θ_run _ _ _).mono (fun r h => ⟨fun c => (h c).2.2, sem_eq_zero_of_no_sems rfl r.2⟩) (Cert.InRefIdeal.Value.run m g)

theorem in_preserves : Cert.preserves_InProj_InProjIdeal :=
  IdealRules.named_const.statement Cert.InProjIdeal.κ "unit" .f32 0x3E0293EE#32 _ rfl

theorem in_value : Cert.algebraic_InProjIdeal_InRefIdeal := fun m g m' g' _ hagree =>
  ⟨fun c => Cert.InValue.want5 m c, fun c => Cert.InValue.want6 m c,
    (θ_run _ _ _).mono (fun r h c => ⟨(h c).1.trans (Cert.InValue.final5 m c), (h c).2.1.trans (Cert.InValue.final6 m c), (h c).2.2⟩)
      (Cert.InProjIdeal.Value.run_blocks m g),
    (θ_run _ _ _).mono (fun r h c => ⟨((h c).1.trans (Cert.InRefIdeal.Read.val_main_v87_eq _ _)).trans (by
        obtain ⟨h0, h1, h2⟩ := hagree c
        rw [h0, h1, h2]), ((h c).2.1.trans (Cert.InRefIdeal.Read.val_main_v89_eq _ _)).trans (by
        obtain ⟨h0, h1, h2⟩ := hagree c
        rw [h0, h1, h2]), (h c).2.2⟩)
      (Cert.InRefIdeal.Value.run m' g')⟩

theorem mid_frame : Cert.quiescent_MidProj := fun m g _ => by
  run_from Cert.MidProj.Gen.frame m g

theorem mid_ideal_frame : Cert.quiescent_MidProjIdeal := fun m g _ => by
  run_from Cert.MidProjIdeal.Gen.frame m g

theorem mid_reference_frame : Cert.quiescent_MidRefIdeal := fun m g _ =>
  (θ_run _ _ _).mono (fun r h => ⟨fun c => (h c).2.2, sem_eq_zero_of_no_sems rfl r.2⟩) (Cert.MidRefIdeal.Value.run m g)

theorem mid_value : Cert.algebraic_MidProjIdeal_MidRefIdeal := fun m g m' g' _ hagree =>
  ⟨fun c => Cert.MidValue.want7 m c, fun c => Cert.MidValue.want8 m c,
    (θ_run _ _ _).mono (fun r h c => ⟨(h c).1.trans (Cert.MidValue.final7 m c), (h c).2.1.trans (Cert.MidValue.final8 m c), (h c).2.2⟩)
      (Cert.MidProjIdeal.Value.run_blocks m g),
    (θ_run _ _ _).mono (fun r h c => by
        obtain ⟨h0, h1, h2, h3, h4, h5, h6⟩ := hagree c
        exact ⟨((h c).1.trans (Cert.MidRefIdeal.Read.val_main_v4_eq _ _ _ _ _)).trans (by rw [h0, h1, h2, h3, h4]), ((h c).2.1.trans (Cert.MidRefIdeal.Read.val_main_v6_eq _)).trans (by rw [h6]),
          (h c).2.2⟩)
      (Cert.MidRefIdeal.Value.run m' g')⟩

theorem tokens_frame : Cert.quiescent_Tokens := fun m g _ => by
  run_from Cert.Tokens.Gen.frame m g

theorem tokens_ideal_frame : Cert.quiescent_TokensIdeal := fun m g _ => by
  run_from Cert.TokensIdeal.Gen.frame m g

theorem tokens_reference_frame : Cert.quiescent_TokensRefIdeal := fun m g _ =>
  (θ_run _ _ _).mono (fun r h => ⟨fun c => (h c).2.2.2, sem_eq_zero_of_no_sems rfl r.2⟩) (Cert.TokensRefIdeal.Value.run m g)

theorem tokens_value : Cert.algebraic_TokensIdeal_TokensRefIdeal := fun m g m' g' _ hagree =>
  ⟨fun c => Cert.TokensValue.want5 m c, fun c => Cert.TokensValue.want6 m c, fun c => Cert.TokensValue.want7 m c,
    (θ_run _ _ _).mono (fun r h c => ⟨(h c).1.trans (Cert.TokensValue.final5 m c), (h c).2.1.trans (Cert.TokensValue.final6 m c), (h c).2.2.1.trans (Cert.TokensValue.final7 m c), (h c).2.2.2⟩)
      (Cert.TokensIdeal.Value.run_blocks m g),
    (θ_run _ _ _).mono (fun r h c => by
        obtain ⟨h0, h1, h2, h3, h4⟩ := hagree c
        exact ⟨((h c).1.trans (Cert.TokensRefIdeal.Read.val_main_v17_eq _ _ _)).trans (by rw [h0, h1, h2]), ((h c).2.1.trans (Cert.TokensRefIdeal.Read.val_main_v20_eq _)).trans (by rw [h3]), ((h c).2.2.1.trans (Cert.TokensRefIdeal.Read.val_main_v23_eq _)).trans (by rw [h4]),
          (h c).2.2.2⟩)
      (Cert.TokensRefIdeal.Value.run m' g')⟩

theorem dilated_frame : Cert.quiescent_Dilated := fun m g _ => by
  run_from Cert.Dilated.Gen.frame m g

theorem dilated_ideal_frame : Cert.quiescent_DilatedIdeal := fun m g _ => by
  run_from Cert.DilatedIdeal.Gen.frame m g

theorem memory_frame : Cert.quiescent_Memory := fun m g _ => by
  run_from Cert.Memory.Gen.frame m g

theorem memory_ideal_frame : Cert.quiescent_MemoryIdeal := fun m g _ => by
  run_from Cert.MemoryIdeal.Gen.frame m g

theorem memory_reference_frame : Cert.quiescent_MemoryRefIdeal := fun m g _ =>
  (θ_run _ _ _).mono (fun r h => ⟨fun c => (h c).2, sem_eq_zero_of_no_sems rfl r.2⟩) (Cert.MemoryRefIdeal.Value.run m g)

/-- The side conditions of the precondition's operations. -/
instance finite_facts : Cert.Pre_finite.Facts where
  slices_S32768x7168_S32768x512_0_6144 := by decide
  bitsLt_bf16_f32 := by decide
  slices_S4096x1024_S4096x512_0_0 := by decide
  bcast_S_S32768x512 := by decide
  reducesTo_S32768x512_S_d0_1 := by decide
  h_S_ := by decide
  bcast_S_S4096x512 := by decide
  reducesTo_S4096x512_S_d0_1 := by decide

theorem memory_ideal_frame_finite : Cert.quiescent_MemoryIdeal_pre_finite := fun m g _ => memory_ideal_frame m g trivial

theorem memory_reference_frame_finite : Cert.quiescent_MemoryRefIdeal_pre_finite := fun m g _ => memory_reference_frame m g trivial

theorem memory_value : Cert.algebraic_MemoryIdeal_MemoryRefIdeal_pre_finite := fun m g m' g' hp hagree =>
  ⟨fun c => Cert.MemoryFinal.want14 m c,
    (θ_run _ _ _).mono (fun r h c => ⟨(h c).2.1.trans (Cert.MemoryFinal.final14 m c (hp c)), (h c).2.2⟩)
      (Cert.MemoryIdeal.Value.run_blocks m g),
    (θ_run _ _ _).mono (fun r h c => ⟨((h c).1.trans (Cert.MemoryRefIdeal.Read.val_main_v31_eq _ _)).trans (by
        obtain ⟨h0, h1⟩ := hagree c
        rw [h0, h1]), (h c).2⟩)
      (Cert.MemoryRefIdeal.Value.run m' g')⟩

theorem claim : Cert.Claim := ⟨Cert.OutProj.Gen.facts, Cert.OutProjIdeal.Gen.facts, Cert.OutRefIdeal.Gen.facts,
  Cert.InProj.Gen.facts, Cert.InProjIdeal.Gen.facts, Cert.InRefIdeal.Gen.facts,
  Cert.MidProj.Gen.facts, Cert.MidProjIdeal.Gen.facts, Cert.MidRefIdeal.Gen.facts,
  Cert.Tokens.Gen.facts, Cert.TokensIdeal.Gen.facts, Cert.TokensRefIdeal.Gen.facts,
  Cert.Dilated.Gen.facts, Cert.DilatedIdeal.Gen.facts,
  Cert.Memory.Gen.facts, Cert.MemoryIdeal.Gen.facts, Cert.MemoryRefIdeal.Gen.facts, finite_facts,
  out_frame, out_ideal_frame, out_reference_frame, in_frame, in_ideal_frame, in_reference_frame,
  mid_frame, mid_ideal_frame, mid_reference_frame, tokens_frame, tokens_ideal_frame, tokens_reference_frame,
  dilated_frame, dilated_ideal_frame, memory_frame, memory_ideal_frame, memory_ideal_frame_finite,
  memory_reference_frame, memory_reference_frame_finite,
  trivial, out_value, in_preserves, in_value, trivial, mid_value, trivial, tokens_value, trivial, trivial, memory_value⟩

end Cert.Proof

end
